-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x64 : Shape := ⟨2, ![32768, 64]⟩
abbrev S4x1024x64 : Shape := ⟨3, ![4, 1024, 64]⟩
abbrev S32768x4 : Shape := ⟨2, ![32768, 4]⟩
abbrev S16x1x1 : Shape := ⟨3, ![16, 1, 1]⟩
abbrev S_ : Shape := ⟨0, ![]⟩
abbrev S2048x64 : Shape := ⟨2, ![2048, 64]⟩
abbrev S2048x4 : Shape := ⟨2, ![2048, 4]⟩
abbrev S1x1x1 : Shape := ⟨3, ![1, 1, 1]⟩
abbrev S1x128 : Shape := ⟨2, ![1, 128]⟩
abbrev S1x1024 : Shape := ⟨2, ![1, 1024]⟩
abbrev S1x1024x64 : Shape := ⟨3, ![1, 1024, 64]⟩
abbrev S1024x64 : Shape := ⟨2, ![1024, 64]⟩
abbrev S2048 : Shape := ⟨1, ![2048]⟩
abbrev S2048x1 : Shape := ⟨2, ![2048, 1]⟩
abbrev S1024 : Shape := ⟨1, ![1024]⟩
abbrev S2048x1024 : Shape := ⟨2, ![2048, 1024]⟩
abbrev S2048x128 : Shape := ⟨2, ![2048, 128]⟩
abbrev S1x2048x1 : Shape := ⟨3, ![1, 2048, 1]⟩
abbrev S1 : Shape := ⟨1, ![1]⟩

abbrev nBuf : Space → Nat
  | .hbm => 9
  | .vmem => 9
  | .smem => 0
  | _ => 0

abbrev bufTy : (tb : Table) → Fin (tcTables nBuf tb) → BufTy
  | .hbm, ⟨0, _⟩ => ⟨S32768x64, .f32⟩
  | .hbm, ⟨1, _⟩ => ⟨S4x1024x64, .f32⟩
  | .hbm, ⟨2, _⟩ => ⟨S32768x64, .f32⟩
  | .hbm, ⟨3, _⟩ => ⟨S32768x4, .i32⟩
  | .hbm, ⟨4, _⟩ => ⟨S16x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S4x1024x64, .f32⟩
  | .local _ .vmem, ⟨3, _⟩ => ⟨S2048x64, .f32⟩
  | .local _ .vmem, ⟨4, _⟩ => ⟨S2048x64, .f32⟩
  | .local _ .vmem, ⟨5, _⟩ => ⟨S2048x4, .i32⟩
  | .local _ .vmem, ⟨6, _⟩ => ⟨S2048x4, .i32⟩
  | .local _ .vmem, ⟨7, _⟩ => ⟨S1x1x1, .f32⟩
  | .local _ .vmem, ⟨8, _⟩ => ⟨S1x1x1, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_call0_v0_2 : Ref sig .tc := ⟨.hbm, 4, rfl⟩
abbrev main_call0_cst : Ref sig .tc := ⟨.hbm, 5, rfl⟩
abbrev main_call0_v1 : Ref sig .tc := ⟨.hbm, 6, rfl⟩
abbrev main_call0_cst_0 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x64 : Shape := ⟨2, ![32768, 64]⟩
abbrev S4x1024x64 : Shape := ⟨3, ![4, 1024, 64]⟩
abbrev S1x1024x64 : Shape := ⟨3, ![1, 1024, 64]⟩
abbrev S1024x64 : Shape := ⟨2, ![1024, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S1x32768x64 : Shape := ⟨3, ![1, 32768, 64]⟩
abbrev S4x32768x64 : Shape := ⟨3, ![4, 32768, 64]⟩
abbrev S32768x4 : Shape := ⟨2, ![32768, 4]⟩

abbrev nBuf : Space → Nat
  | .hbm => 215
  | .vmem => 0
  | .smem => 0
  | _ => 0

abbrev hbmTy0_0 (i : Nat) : BufTy := match i % 128 with
  | 0 => ⟨S32768x64, .f32⟩
  | 1 => ⟨S4x1024x64, .f32⟩
  | 2 => ⟨S1x1024x64, .f32⟩
  | 3 => ⟨S1024x64, .f32⟩
  | 4 => ⟨S32768x64, .f32⟩
  | 5 => ⟨S_, .f32⟩
  | 6 => ⟨S32768, .f32⟩
  | 7 => ⟨S32768x1, .f32⟩
  | 8 => ⟨S1024x64, .f32⟩
  | 9 => ⟨S_, .f32⟩
  | 10 => ⟨S1024, .f32⟩
  | 11 => ⟨S1x1024, .f32⟩
  | 12 => ⟨S32768x1024, .f32⟩
  | 13 => ⟨S32768x1024, .f32⟩
  | 14 => ⟨S32768x1024, .f32⟩
  | 15 => ⟨S64x1024, .f32⟩
  | 16 => ⟨S32768x1024, .f32⟩
  | 17 => ⟨S_, .f32⟩
  | 18 => ⟨S32768x1024, .f32⟩
  | 19 => ⟨S32768x1024, .f32⟩
  | 20 => ⟨S32768x1024, .f32⟩
  | 21 => ⟨S32768x1024, .i32⟩
  | 22 => ⟨S_, .f32⟩
  | 23 => ⟨S_, .i32⟩
  | 24 => ⟨S32768, .f32⟩
  | 25 => ⟨S32768, .i32⟩
  | 26 => ⟨S32768x1, .i32⟩
  | 27 => ⟨S1x1024, .i32⟩
  | 28 => ⟨S32768x1024, .i32⟩
  | 29 => ⟨S32768x1024, .i32⟩
  | 30 => ⟨S32768x1024, .i1⟩
  | 31 => ⟨S32768x1024, .f32⟩
  | 32 => ⟨S32768x64, .f32⟩
  | 33 => ⟨S32768x64, .f32⟩
  | 34 => ⟨S32768x64, .f32⟩
  | 35 => ⟨S32768x64, .f32⟩
  | 36 => ⟨S32768x64, .f32⟩
  | 37 => ⟨S_, .f32⟩
  | 38 => ⟨S_, .f32⟩
  | 39 => ⟨S_, .f32⟩
  | 40 => ⟨S_, .f32⟩
  | 41 => ⟨S32768x64, .f32⟩
  | 42 => ⟨S32768x64, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S32768x64, .f32⟩
  | 51 => ⟨S_, .f32⟩
  | 52 => ⟨S_, .f32⟩
  | 53 => ⟨S1x1024x64, .f32⟩
  | 54 => ⟨S1024x64, .f32⟩
  | 55 => ⟨S32768x64, .f32⟩
  | 56 => ⟨S_, .f32⟩
  | 57 => ⟨S32768, .f32⟩
  | 58 => ⟨S32768x1, .f32⟩
  | 59 => ⟨S1024x64, .f32⟩
  | 60 => ⟨S_, .f32⟩
  | 61 => ⟨S1024, .f32⟩
  | 62 => ⟨S1x1024, .f32⟩
  | 63 => ⟨S32768x1024, .f32⟩
  | 64 => ⟨S32768x1024, .f32⟩
  | 65 => ⟨S32768x1024, .f32⟩
  | 66 => ⟨S64x1024, .f32⟩
  | 67 => ⟨S32768x1024, .f32⟩
  | 68 => ⟨S_, .f32⟩
  | 69 => ⟨S32768x1024, .f32⟩
  | 70 => ⟨S32768x1024, .f32⟩
  | 71 => ⟨S32768x1024, .f32⟩
  | 72 => ⟨S32768x1024, .i32⟩
  | 73 => ⟨S_, .f32⟩
  | 74 => ⟨S_, .i32⟩
  | 75 => ⟨S32768, .f32⟩
  | 76 => ⟨S32768, .i32⟩
  | 77 => ⟨S32768x1, .i32⟩
  | 78 => ⟨S1x1024, .i32⟩
  | 79 => ⟨S32768x1024, .i32⟩
  | 80 => ⟨S32768x1024, .i32⟩
  | 81 => ⟨S32768x1024, .i1⟩
  | 82 => ⟨S32768x1024, .f32⟩
  | 83 => ⟨S32768x64, .f32⟩
  | 84 => ⟨S32768x64, .f32⟩
  | 85 => ⟨S32768x64, .f32⟩
  | 86 => ⟨S32768x64, .f32⟩
  | 87 => ⟨S32768x64, .f32⟩
  | 88 => ⟨S_, .f32⟩
  | 89 => ⟨S_, .f32⟩
  | 90 => ⟨S_, .f32⟩
  | 91 => ⟨S_, .f32⟩
  | 92 => ⟨S32768x64, .f32⟩
  | 93 => ⟨S32768x64, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S32768x64, .f32⟩
  | 102 => ⟨S_, .f32⟩
  | 103 => ⟨S1x1024x64, .f32⟩
  | 104 => ⟨S1024x64, .f32⟩
  | 105 => ⟨S32768x64, .f32⟩
  | 106 => ⟨S_, .f32⟩
  | 107 => ⟨S32768, .f32⟩
  | 108 => ⟨S32768x1, .f32⟩
  | 109 => ⟨S1024x64, .f32⟩
  | 110 => ⟨S_, .f32⟩
  | 111 => ⟨S1024, .f32⟩
  | 112 => ⟨S1x1024, .f32⟩
  | 113 => ⟨S32768x1024, .f32⟩
  | 114 => ⟨S32768x1024, .f32⟩
  | 115 => ⟨S32768x1024, .f32⟩
  | 116 => ⟨S64x1024, .f32⟩
  | 117 => ⟨S32768x1024, .f32⟩
  | 118 => ⟨S_, .f32⟩
  | 119 => ⟨S32768x1024, .f32⟩
  | 120 => ⟨S32768x1024, .f32⟩
  | 121 => ⟨S32768x1024, .f32⟩
  | 122 => ⟨S32768x1024, .i32⟩
  | 123 => ⟨S_, .f32⟩
  | 124 => ⟨S_, .i32⟩
  | 125 => ⟨S32768, .f32⟩
  | 126 => ⟨S32768, .i32⟩
  | 127 => ⟨S32768x1, .i32⟩
  | _ => ⟨S32768x64, .f32⟩

abbrev hbmTy0_1 (i : Nat) : BufTy := match i % 128 with
  | 0 => ⟨S1x1024, .i32⟩
  | 1 => ⟨S32768x1024, .i32⟩
  | 2 => ⟨S32768x1024, .i32⟩
  | 3 => ⟨S32768x1024, .i1⟩
  | 4 => ⟨S32768x1024, .f32⟩
  | 5 => ⟨S32768x64, .f32⟩
  | 6 => ⟨S32768x64, .f32⟩
  | 7 => ⟨S32768x64, .f32⟩
  | 8 => ⟨S32768x64, .f32⟩
  | 9 => ⟨S32768x64, .f32⟩
  | 10 => ⟨S_, .f32⟩
  | 11 => ⟨S_, .f32⟩
  | 12 => ⟨S_, .f32⟩
  | 13 => ⟨S_, .f32⟩
  | 14 => ⟨S32768x64, .f32⟩
  | 15 => ⟨S32768x64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S32768x64, .f32⟩
  | 24 => ⟨S_, .f32⟩
  | 25 => ⟨S1x1024x64, .f32⟩
  | 26 => ⟨S1024x64, .f32⟩
  | 27 => ⟨S32768x64, .f32⟩
  | 28 => ⟨S_, .f32⟩
  | 29 => ⟨S32768, .f32⟩
  | 30 => ⟨S32768x1, .f32⟩
  | 31 => ⟨S1024x64, .f32⟩
  | 32 => ⟨S_, .f32⟩
  | 33 => ⟨S1024, .f32⟩
  | 34 => ⟨S1x1024, .f32⟩
  | 35 => ⟨S32768x1024, .f32⟩
  | 36 => ⟨S32768x1024, .f32⟩
  | 37 => ⟨S32768x1024, .f32⟩
  | 38 => ⟨S64x1024, .f32⟩
  | 39 => ⟨S32768x1024, .f32⟩
  | 40 => ⟨S_, .f32⟩
  | 41 => ⟨S32768x1024, .f32⟩
  | 42 => ⟨S32768x1024, .f32⟩
  | 43 => ⟨S32768x1024, .f32⟩
  | 44 => ⟨S32768x1024, .i32⟩
  | 45 => ⟨S_, .f32⟩
  | 46 => ⟨S_, .i32⟩
  | 47 => ⟨S32768, .f32⟩
  | 48 => ⟨S32768, .i32⟩
  | 49 => ⟨S32768x1, .i32⟩
  | 50 => ⟨S1x1024, .i32⟩
  | 51 => ⟨S32768x1024, .i32⟩
  | 52 => ⟨S32768x1024, .i32⟩
  | 53 => ⟨S32768x1024, .i1⟩
  | 54 => ⟨S32768x1024, .f32⟩
  | 55 => ⟨S32768x64, .f32⟩
  | 56 => ⟨S32768x64, .f32⟩
  | 57 => ⟨S32768x64, .f32⟩
  | 58 => ⟨S32768x64, .f32⟩
  | 59 => ⟨S32768x64, .f32⟩
  | 60 => ⟨S_, .f32⟩
  | 61 => ⟨S_, .f32⟩
  | 62 => ⟨S_, .f32⟩
  | 63 => ⟨S_, .f32⟩
  | 64 => ⟨S32768x64, .f32⟩
  | 65 => ⟨S32768x64, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S32768x64, .f32⟩
  | 74 => ⟨S_, .f32⟩
  | 75 => ⟨S1x32768x64, .f32⟩
  | 76 => ⟨S1x32768x64, .f32⟩
  | 77 => ⟨S1x32768x64, .f32⟩
  | 78 => ⟨S1x32768x64, .f32⟩
  | 79 => ⟨S4x32768x64, .f32⟩
  | 80 => ⟨S_, .f32⟩
  | 81 => ⟨S32768x64, .f32⟩
  | 82 => ⟨S32768x1, .i32⟩
  | 83 => ⟨S32768x1, .i32⟩
  | 84 => ⟨S32768x1, .i32⟩
  | 85 => ⟨S32768x1, .i32⟩
  | 86 => ⟨S32768x4, .i32⟩
  | _ => ⟨S32768x64, .f32⟩

abbrev hbmTy (i : Nat) : BufTy := match i / 128 with
  | 0 => hbmTy0_0 i
  | 1 => hbmTy0_1 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call2_v0 : Ref sig .tc := ⟨.hbm, 72, rfl⟩
abbrev main_call2_cst : Ref sig .tc := ⟨.hbm, 73, rfl⟩
abbrev main_call2_c : Ref sig .tc := ⟨.hbm, 74, rfl⟩
abbrev main_call2_v1_0 : Ref sig .tc := ⟨.hbm, 75, rfl⟩
abbrev main_v49 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_cst_15 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_17 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_18 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_call4_v0 : Ref sig .tc := ⟨.hbm, 122, rfl⟩
abbrev main_call4_cst : Ref sig .tc := ⟨.hbm, 123, rfl⟩
abbrev main_call4_c : Ref sig .tc := ⟨.hbm, 124, rfl⟩
abbrev main_call4_v1_0 : Ref sig .tc := ⟨.hbm, 125, rfl⟩
abbrev main_v82 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_19 : Ref sig .tc := ⟨.hbm, 138, rfl⟩
abbrev main_v89 : Ref sig .tc := ⟨.hbm, 139, rfl⟩
abbrev main_cst_20 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_21 : Ref sig .tc := ⟨.hbm, 144, rfl⟩
abbrev main_v93 : Ref sig .tc := ⟨.hbm, 145, rfl⟩
abbrev main_cst_22 : Ref sig .tc := ⟨.hbm, 146, rfl⟩
abbrev main_v94 : Ref sig .tc := ⟨.hbm, 147, rfl⟩
abbrev main_cst_23 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_24 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_25 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_26 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_call6_v0 : Ref sig .tc := ⟨.hbm, 172, rfl⟩
abbrev main_call6_cst : Ref sig .tc := ⟨.hbm, 173, rfl⟩
abbrev main_call6_c : Ref sig .tc := ⟨.hbm, 174, rfl⟩
abbrev main_call6_v1_0 : Ref sig .tc := ⟨.hbm, 175, rfl⟩
abbrev main_v115 : Ref sig .tc := ⟨.hbm, 176, rfl⟩
abbrev main_call7_v0 : Ref sig .tc := ⟨.hbm, 177, rfl⟩
abbrev main_call7_v1 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_cst_27 : Ref sig .tc := ⟨.hbm, 188, rfl⟩
abbrev main_v122 : Ref sig .tc := ⟨.hbm, 189, rfl⟩
abbrev main_cst_28 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_29 : Ref sig .tc := ⟨.hbm, 194, rfl⟩
abbrev main_v126 : Ref sig .tc := ⟨.hbm, 195, rfl⟩
abbrev main_cst_30 : Ref sig .tc := ⟨.hbm, 196, rfl⟩
abbrev main_v127 : Ref sig .tc := ⟨.hbm, 197, rfl⟩
abbrev main_cst_31 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_cst_32 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩

abbrev nD : Nat := 1
abbrev τ : Topo := Topo.v7x

variable {F : FTy → Type} [FloatOps F]
-- ==== Proof.KerStage.lean ====
/- One stage of the kernel on a block of rows, as functions of the block and the code book, and the body's values in terms
   of them. -/
module

public import proofs.«01_k».proof.Proof.Gen.KernelIdeal.Frame
public import Idealize.ShloMosaic.PureOps.Ideal
public import Idealize.ShloMosaic.Lib.Pointwise

@[expose] public section

set_option maxRecDepth 16384

noncomputable section

namespace Cert.KernelIdeal

open Idealize.ShloMosaic Idealize.SL.Sem Cert.KernelIdeal.Gen

/-- A block's code book without its unit axis. -/
def book (y : Vec Ideal S1x1024x64 .f32) : FVec Ideal S1024x64 .f32 := shapeCast S1024x64 y shapeCasts_S1x1024x64_S1024x64

/-- The squared lengths of the rows. -/
def sq (X : FVec Ideal S2048x64 .f32) : FVec Ideal S2048x1 .f32 :=
  shapeCast S2048x1 (multiReduction .add [1] S2048 (mulf X X) 0x00000000#32 reduces_S2048x64_S2048 (.inl rfl) rfl)
    shapeCasts_S2048_S2048x1

/-- The distances of the rows to the codes. -/
def dist (X : FVec Ideal S2048x64 .f32) (W : FVec Ideal S1024x64 .f32) : FVec Ideal S2048x1024 .f32 :=
  subf
    (addf (broadcastTo S2048x1024 (sq X) broadcasts_S2048x1_S2048x1024)
      (broadcastTo S2048x1024
        (shapeCast S1x1024 (multiReduction .add [1] S1024 (mulf W W) 0x00000000#32 reduces_S1024x64_S1024 (.inl rfl) rfl)
          shapeCasts_S1024_S1x1024) broadcasts_S1x1024_S2048x1024))
    (matmul dot_S2048x64_S1024x64_S2048x1024_1_1_0_0_n_n none X (addf W W) (constant S2048x1024 .f32 0x00000000#32))

/-- The smallest distance of each row. -/
def least (D : FVec Ideal S2048x1024 .f32) : FVec Ideal S2048x1 .f32 :=
  shapeCast S2048x1 (multiReduction .minimumf [1] S2048 D 0x7F800000#32 reduces_S2048x1024_S2048 (.inl rfl) rfl)
    shapeCasts_S2048_S2048x1

/-- The smallest distance along the lanes. -/
def lanes (M : FVec Ideal S2048x1 .f32) : FVec Ideal S2048x128 .f32 := broadcastTo S2048x128 M broadcasts_S2048x1_S2048x128

/-- The first chunk of 128 codes in which a lane attains `M`, or eight. -/
def chunk (D : FVec Ideal S2048x1024 .f32) (M : FVec Ideal S2048x1 .f32) : IVec S2048x128 32 :=
  select (cmpf .oeq (extractStridedSlice S2048x128 ![0, 0] D slices_S2048x1024_o0_0_S2048x128) (lanes M)) (broadcast S2048x128 0#32) <|
  select (cmpf .oeq (extractStridedSlice S2048x128 ![0, 128] D slices_S2048x1024_o0_128_S2048x128) (lanes M)) (broadcast S2048x128 1#32) <|
  select (cmpf .oeq (extractStridedSlice S2048x128 ![0, 256] D slices_S2048x1024_o0_256_S2048x128) (lanes M)) (broadcast S2048x128 2#32) <|
  select (cmpf .oeq (extractStridedSlice S2048x128 ![0, 384] D slices_S2048x1024_o0_384_S2048x128) (lanes M)) (broadcast S2048x128 3#32) <|
  select (cmpf .oeq (extractStridedSlice S2048x128 ![0, 512] D slices_S2048x1024_o0_512_S2048x128) (lanes M)) (broadcast S2048x128 4#32) <|
  select (cmpf .oeq (extractStridedSlice S2048x128 ![0, 640] D slices_S2048x1024_o0_640_S2048x128) (lanes M)) (broadcast S2048x128 5#32) <|
  select (cmpf .oeq (extractStridedSlice S2048x128 ![0, 768] D slices_S2048x1024_o0_768_S2048x128) (lanes M)) (broadcast S2048x128 6#32) <|
  select (cmpf .oeq (extractStridedSlice S2048x128 ![0, 896] D slices_S2048x1024_o0_896_S2048x128) (lanes M)) (broadcast S2048x128 7#32) <|
  broadcast S2048x128 8#32

/-- The smallest index the lanes offer. -/
def pick (K : IVec S2048x128 32) : IVec S2048x1 32 :=
  shapeCast S2048x1
    (multiReductionI .minsi [1] S2048
      (addi (muli K (broadcast S2048x128 128#32))
        (broadcastTo S2048x128 (iota .tc S1x128 32 [1] iota_S1x128_d1_w32) broadcasts_S1x128_S2048x128))
      2147483647#32 reduces_S2048x128_S2048 rfl) shapeCasts_S2048_S2048x1

/-- The code indices of a stage. -/
def code (X : FVec Ideal S2048x64 .f32) (W : FVec Ideal S1024x64 .f32) : IVec S2048x1 32 :=
  pick (chunk (dist X W) (least (dist X W)))

/-- The rows of `W` that the indices `K` choose, as a product with their one-hot rows. -/
def gather (K : IVec S2048x1 32) (W : FVec Ideal S1024x64 .f32) : FVec Ideal S2048x64 .f32 :=
  matmul dot_S2048x1024_S1024x64_S2048x64_1_0_0_1_n_n none
    (sitofp .f32
      (extui 32
        (cmpi .eq (broadcastTo S2048x1024 (iota .tc S1x1024 32 [1] iota_S1x1024_d1_w32) broadcasts_S1x1024_S2048x1024)
          (broadcastTo S2048x1024 K broadcasts_S2048x1_S2048x1024)) natLt_1_32)) W
    (constant S2048x64 .f32 0x00000000#32)

/-- A stage's straight-through output. -/
def out (X : FVec Ideal S2048x64 .f32) (W : FVec Ideal S1024x64 .f32) : FVec Ideal S2048x64 .f32 :=
  addf X (subf (gather (code X W) W) X)

/-- The residual a stage leaves. -/
def next (X : FVec Ideal S2048x64 .f32) (W : FVec Ideal S1024x64 .f32) : FVec Ideal S2048x64 .f32 := subf X (out X W)

/-- The block's loss from the squared lengths of the four residuals. -/
def total (a b c d : FVec Ideal S2048x1 .f32) : FVec Ideal S1x1x1 .f32 :=
  broadcast S1x1x1 (Scalar.mulf (Scalar.ofBits .f32 0x3FA00000#32)
    (Scalar.divf
      (extractAt ![0, 0, 0]
        (shapeCast S1x1x1
          (multiReduction .add [1, 2] S1 (shapeCast S1x2048x1 (addf (addf (addf a b) c) d) shapeCasts_S2048x1_S1x2048x1)
            0x00000000#32 reduces_S1x2048x1_S1 (.inl rfl) rfl)
          shapeCasts_S1_S1x1x1) inpos_S1x1x1_p0_0_0)
      (Scalar.ofBits .f32 0x48000000#32)))

/-! ## The body's values -/

variable (x0 : Vec Ideal S2048x64 .f32) (x1 : Vec Ideal S4x1024x64 .f32)

/-- The first stored column is the first stage's indices. -/
theorem code0_eq : k0_pay8 (k0_pay43 x0 x1) (k0_pay46 x0 x1) (k0_pay47 x0 x1) (k0_pay48 x0 x1) (k0_pay49 x0 x1) (k0_pay50 x0 x1)
    = code (View.ld x0 r0_0) (k0_pay45 x0 x1) := rfl

/-- The residual after the first stage. -/
theorem next0_eq : k0_pay51 x0 x1 = next (View.ld x0 r0_0) (k0_pay45 x0 x1) := rfl

/-- The second stored column is the second stage's indices. -/
theorem code1_eq : k0_pay18 (k0_pay43 x0 x1) (k0_pay53 x0 x1) (k0_pay54 x0 x1) = code (k0_pay51 x0 x1) (k0_pay52 x0 x1) := rfl

/-- The residual after the second stage. -/
theorem next1_eq : k0_pay55 x0 x1 = next (k0_pay51 x0 x1) (k0_pay52 x0 x1) := rfl

/-- The third stored column is the third stage's indices. -/
theorem code2_eq : k0_pay28 (k0_pay43 x0 x1) (k0_pay57 x0 x1) (k0_pay58 x0 x1) (k0_pay59 x0 x1) (k0_pay60 x0 x1)
    = code (k0_pay55 x0 x1) (k0_pay56 x0 x1) := rfl

/-- The residual after the third stage. -/
theorem next2_eq : k0_pay61 x0 x1 = next (k0_pay55 x0 x1) (k0_pay56 x0 x1) := rfl

/-- The fourth stored column is the fourth stage's indices. -/
theorem code3_eq : k0_pay39 (k0_pay43 x0 x1) (k0_pay63 x0 x1) (k0_pay64 x0 x1) (k0_pay65 x0 x1) (k0_pay66 x0 x1) 3#32
    = code (k0_pay61 x0 x1) (k0_pay62 x0 x1) := rfl

/-- The stored reconstruction is the four stages' outputs added. -/
theorem out0_2_eq : out0_2 x0 x1 = View.canon [⟨r0_0, addf (addf (addf (out (View.ld x0 r0_0) (k0_pay45 x0 x1))
    (out (k0_pay51 x0 x1) (k0_pay52 x0 x1))) (out (k0_pay55 x0 x1) (k0_pay56 x0 x1))) (out (k0_pay61 x0 x1) (k0_pay62 x0 x1))⟩] := rfl

/-- The stored loss is that of the four residuals' squared lengths. -/
theorem out0_4_eq : out0_4 x0 x1 = View.canon [⟨r0_9, total (sq (k0_pay51 x0 x1)) (sq (k0_pay55 x0 x1)) (sq (k0_pay61 x0 x1))
    (sq (next (k0_pay61 x0 x1) (k0_pay62 x0 x1)))⟩] := rfl

end Cert.KernelIdeal

end
-- ==== Proof.Row.lean ====
/- One row of residual vector quantisation over the extended reals: the squared distances of a row to the codes, the
   first nearest code, and the identities between the two ways of writing a stage. -/
module

public import Mathlib.Data.EReal.Operations
public import Mathlib.Data.EReal.Inv
public import Mathlib.Algebra.BigOperators.Fin
public import Mathlib.Data.Fintype.Lattice

@[expose] public section

noncomputable section

namespace Cert.Row

/-! ## The first smallest entry -/

/-- `k` is the first index of a smallest entry of `d`. -/
def FirstMin {n : ℕ} (d : Fin n → EReal) (k : Fin n) : Prop := ∀ l, d k ≤ d l ∧ (d k = d l → k ≤ l)

/-- A smallest entry has a first index. -/
theorem exists_firstMin {n : ℕ} [NeZero n] (d : Fin n → EReal) : ∃ k, FirstMin d k := by
  obtain ⟨a, ha⟩ := Finite.exists_min d
  classical
  have hex : ∃ i : ℕ, ∃ h : i < n, d ⟨i, h⟩ = d a := ⟨a, a.2, rfl⟩
  obtain ⟨h, he⟩ := Nat.find_spec hex
  refine ⟨⟨Nat.find hex, h⟩, fun l => ⟨he.le.trans (ha l), fun hl => ?_⟩⟩
  exact Nat.find_min' hex ⟨l.2, hl ▸ he⟩

/-- The first index of a smallest entry of `d`. -/
def firstMin {n : ℕ} [NeZero n] (d : Fin n → EReal) : Fin n := (exists_firstMin d).choose

/-- `firstMin d` is one. -/
theorem firstMin_spec {n : ℕ} [NeZero n] (d : Fin n → EReal) : FirstMin d (firstMin d) := (exists_firstMin d).choose_spec

/-- There is only one first index. -/
theorem FirstMin.eq {n : ℕ} [NeZero n] {d : Fin n → EReal} {k : Fin n} (h : FirstMin d k) : k = firstMin d := by
  have h' := firstMin_spec d
  have e : d k = d (firstMin d) := le_antisymm (h _).1 (h' _).1
  exact le_antisymm ((h _).2 e) ((h' _).2 e.symm)

/-- A fold by an operation that returns one of its operands, below both, returns one of the folded values or the initial
    one, and is below all of them. -/
theorem foldl_pick {α : Type} (f : α → α → α) (r : α → α → Prop) (hrefl : ∀ a, r a a) (htrans : ∀ a b c, r a b → r b c → r a c)
    (hf : ∀ a b, (f a b = a ∨ f a b = b) ∧ r (f a b) a ∧ r (f a b) b) (L : List α) (z : α) :
    (L.foldl f z = z ∨ L.foldl f z ∈ L) ∧ r (L.foldl f z) z ∧ ∀ p ∈ L, r (L.foldl f z) p := by
  induction L generalizing z with
  | nil => exact ⟨.inl rfl, hrefl _, fun _ h => nomatch h⟩
  | cons b L ih =>
    obtain ⟨h1, h2, h3⟩ := ih (f z b)
    obtain ⟨g1, g2, g3⟩ := hf z b
    rw [List.foldl_cons]
    refine ⟨?_, htrans _ _ _ h2 g2, fun p hp => ?_⟩
    · rcases h1 with h1 | h1
      · rcases g1 with g1 | g1
        · exact .inl (h1.trans g1)
        · exact .inr (by rw [h1, g1]; exact List.mem_cons_self)
      · exact .inr (List.mem_cons_of_mem _ h1)
    · rcases List.mem_cons.1 hp with rfl | hp
      · exact htrans _ _ _ h2 g3
      · exact h3 p hp

/-- The value of a small word. -/
theorem toInt_ofNat {k : ℕ} (hk : k < 2 ^ 31) : (BitVec.ofNat 32 k).toInt = k := by
  rw [BitVec.toInt_eq_toNat_of_lt] <;> rw [BitVec.toNat_ofNat] <;> omega

/-- Small words are equal just when their numbers are. -/
theorem ofNat_inj {k l : ℕ} (hk : k < 2 ^ 31) (hl : l < 2 ^ 31) : BitVec.ofNat 32 k = BitVec.ofNat 32 l ↔ k = l := by
  refine ⟨fun h => ?_, fun h => by rw [h]⟩
  have := congrArg BitVec.toInt h
  rw [toInt_ofNat hk, toInt_ofNat hl] at this
  omega

/-- A pair of an entry and its index comes no later than another: its entry is smaller, or equal with an index no larger. -/
def Lex (a b : EReal × BitVec 32) : Prop := a.1 < b.1 ∨ (a.1 = b.1 ∧ a.2.toInt ≤ b.2.toInt)

/-- The order on pairs is reflexive. -/
theorem Lex.refl (a : EReal × BitVec 32) : Lex a a := .inr ⟨rfl, le_rfl⟩

/-- The order on pairs is transitive. -/
theorem Lex.trans (a b c : EReal × BitVec 32) (h : Lex a b) (g : Lex b c) : Lex a c := by
  rcases h with h | ⟨h, h'⟩ <;> rcases g with g | ⟨g, g'⟩
  · exact .inl (h.trans g)
  · exact .inl (g ▸ h)
  · exact .inl (h ▸ g)
  · exact .inr ⟨h.trans g, h'.trans g'⟩

/-- A pair that is one of the entries' pairs, or the pair of the top and zero, and comes no later than any of them, holds
    the first index of a smallest entry. -/
theorem snd_eq_firstMin {n : ℕ} [NeZero n] (hn : n ≤ 2 ^ 31) (d : Fin n → EReal) (p : EReal × BitVec 32)
    (hp : p = (⊤, 0#32) ∨ ∃ k : Fin n, p = (d k, BitVec.ofNat 32 k)) (h : ∀ l : Fin n, Lex p (d l, BitVec.ofNat 32 l)) :
    p.2 = BitVec.ofNat 32 (firstMin d) := by
  rcases hp with rfl | ⟨k, rfl⟩
  · have ht : ∀ l, ⊤ = d l := fun l => (h l).elim (fun g => absurd g not_top_lt) fun g => g.1
    rw [← FirstMin.eq (d := d) (k := ⟨0, NeZero.pos n⟩) fun l =>
      ⟨((ht _).symm.trans (ht l)).le, fun _ => Fin.mk_le_of_le_val (Nat.zero_le _)⟩]
  · rw [← FirstMin.eq (d := d) (k := k) fun l => ?_]
    rcases h l with g | ⟨g, g'⟩
    · exact ⟨g.le, fun e => absurd e g.ne⟩
    · refine ⟨g.le, fun _ => ?_⟩
      simp only at g'
      rw [toInt_ofNat (by omega), toInt_ofNat (by omega)] at g'
      exact Fin.le_def.2 (by omega)

/-! ## A stage of one row -/

/-- The squared distance of the row `x` to the code `k` of the book `w`, as `|x|² + |w k|² - 2 x·w k`. -/
def dist (x : Fin 64 → EReal) (w : Fin 1024 → Fin 64 → EReal) (k : Fin 1024) : EReal :=
  ((∑ j, x j * x j) + ∑ j, w k j * w k j) - 2 * ∑ j, x j * w k j

/-- The first nearest code of a row. -/
def code (x : Fin 64 → EReal) (w : Fin 1024 → Fin 64 → EReal) : Fin 1024 := firstMin (dist x w)

/-- A stage's straight-through output `x + (q - x)`, with `q` the nearest code. -/
def out (x : Fin 64 → EReal) (w : Fin 1024 → Fin 64 → EReal) (j : Fin 64) : EReal := x j + (w (code x w) j - x j)

/-- The residual a stage leaves. -/
def next (x : Fin 64 → EReal) (w : Fin 1024 → Fin 64 → EReal) (j : Fin 64) : EReal := x j - out x w j

/-- The squared length of the residual a stage leaves. -/
def err (x : Fin 64 → EReal) (w : Fin 1024 → Fin 64 → EReal) : EReal := ∑ j, next x w j * next x w j

/-- Doubling the code instead of the product. -/
theorem sum_mul_add_self {n : ℕ} (x w : Fin n → EReal) : ∑ j, x j * (w j + w j) = 2 * ∑ j, x j * w j := by
  have h2 : ∀ a : EReal, a + a = 2 * a := fun a => by
    rw [← one_add_one_eq_two, EReal.right_distrib_of_nonneg zero_le_one zero_le_one, one_mul]
  rw [← h2, ← Finset.sum_add_distrib]
  refine Finset.sum_congr rfl fun j _ => ?_
  rw [h2, h2, mul_left_comm]

/-- The residual's square is the difference's square, at the infinities too. -/
theorem sq_residual (x q : EReal) : (x - (x + (q - x))) * (x - (x + (q - x))) = (x - q) * (x - q) := by
  induction x with
  | bot => induction q <;> simp
  | top => induction q <;> simp
  | coe x =>
    induction q with
    | bot => simp
    | top => simp
    | coe q =>
      norm_cast
      ring_nf

/-- A product with a one-hot row picks one code. -/
theorem sum_onehot {n : ℕ} (c : Fin n) (f : Fin n → EReal) : ∑ k, (if k = c then (1 : EReal) else 0) * f k = f c := by
  rw [Finset.sum_eq_single c]
  · simp
  · intro k _ h; simp [h]
  · intro h; exact absurd (Finset.mem_univ c) h

/-! ## Constants -/

/-- A nonnegative real factor goes into a sum. -/
theorem mul_sum_of_nonneg {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

end Cert.Row

end
-- ==== Proof.Lanes.lean ====
/- The first smallest of 1024 entries found lane by lane: 128 lanes of eight chunks each offer their first smallest entry,
   and the smallest index offered is the first of all. -/
module

public import proofs.«01_k».proof.Proof.Row
public import Idealize.ShloMosaic.PureOps.Ideal
public import Idealize.ShloMosaic.Lib.Pointwise

@[expose] public section

noncomputable section

namespace Cert.Row

open Idealize.ShloMosaic

/-- The minimum of all entries, started at the top, is the first smallest one. -/
theorem fold_min_eq {n : ℕ} [NeZero n] (d : Fin n → EReal) : Finset.univ.fold min ⊤ d = d (firstMin d) := by
  have h := firstMin_spec d
  refine le_antisymm ?_ ?_
  · exact Finset.fold_min_le (c := d (firstMin d)) |>.2 (.inr ⟨_, Finset.mem_univ _, le_rfl⟩)
  · exact Finset.le_fold_min (c := d (firstMin d)) |>.2 ⟨le_top, fun l _ => (h l).1⟩

/-- The number of a signed minimum is the minimum of the numbers. -/
theorem toInt_minsi (a b : BitVec 32) : (IntOp.minsi a b).toInt = min a.toInt b.toInt := by
  unfold IntOp.minsi
  by_cases h : a.slt b = true
  · have h' : a.toInt < b.toInt := by simpa [BitVec.slt] using h
    rw [if_pos h, min_eq_left h'.le]
  · have h' : ¬ a.toInt < b.toInt := by simpa [BitVec.slt] using h
    rw [if_neg h, min_eq_right (not_lt.1 h')]

/-- A signed minimum over all lanes is `w` when a lane offers `w` and none offers less. -/
theorem fold_minsi_eq {n : ℕ} (f : Fin n → BitVec 32) (w : BitVec 32) (hw : ∃ l, f l = w) (hl : ∀ l, w.toInt ≤ (f l).toInt) :
    Finset.univ.fold IntOp.minsi 2147483647#32 f = w := by
  apply BitVec.eq_of_toInt_eq
  rw [← Finset.fold_hom (op := IntOp.minsi) (op' := min) (m := BitVec.toInt) toInt_minsi]
  refine le_antisymm ?_ ?_
  · obtain ⟨l, rfl⟩ := hw
    exact Finset.fold_min_le (c := (f l).toInt) |>.2 (.inr ⟨l, Finset.mem_univ _, le_rfl⟩)
  · refine Finset.le_fold_min (c := w.toInt) |>.2 ⟨?_, fun l _ => hl l⟩
    have := BitVec.toInt_lt (x := w)
    have e : (2147483647#32 : BitVec 32).toInt = 2147483647 := by decide
    omega

/-- The code number `c` chunks of 128 after lane `l`. -/
def at_ (c : ℕ) (hc : c < 8) (l : Fin 128) : Fin 1024 := ⟨128 * c + l, by omega⟩

open Classical in
/-- The first chunk in which lane `l` attains `m`, or eight. -/
def chunk (d : Fin 1024 → EReal) (m : EReal) (l : Fin 128) : ℕ :=
  if d (at_ 0 (by omega) l) = m then 0 else if d (at_ 1 (by omega) l) = m then 1 else
  if d (at_ 2 (by omega) l) = m then 2 else if d (at_ 3 (by omega) l) = m then 3 else
  if d (at_ 4 (by omega) l) = m then 4 else if d (at_ 5 (by omega) l) = m then 5 else
  if d (at_ 6 (by omega) l) = m then 6 else if d (at_ 7 (by omega) l) = m then 7 else 8

/-- Below eight it is a chunk where the lane attains `m`; and there is none before it. -/
theorem chunk_spec (d : Fin 1024 → EReal) (m : EReal) (l : Fin 128) :
    chunk d m l ≤ 8 ∧ (∀ h : chunk d m l < 8, d (at_ (chunk d m l) h l) = m)
      ∧ ∀ c (hc : c < 8), d (at_ c hc l) = m → chunk d m l ≤ c := by
  unfold chunk
  refine ⟨?_, ?_, ?_⟩
  · split_ifs <;> omega
  · split_ifs <;> first | (intro _; assumption) | (intro h; omega)
  · intro c hc h
    split_ifs <;> first | omega | skip
    all_goals interval_cases c <;> first | omega | contradiction

/-- The smallest index offered is the first index of a smallest entry. -/
theorem fold_chunk_eq (d : Fin 1024 → EReal) :
    Finset.univ.fold IntOp.minsi 2147483647#32
        (fun l : Fin 128 => BitVec.ofNat 32 (chunk d (d (firstMin d)) l * 128 + l))
      = BitVec.ofNat 32 (firstMin d) := by
  have hs := firstMin_spec d
  generalize firstMin d = k at hs ⊢
  have hk : ∀ l : Fin 128, (k : ℕ) ≤ chunk d (d k) l * 128 + l := fun l => by
    obtain ⟨h8, ha, -⟩ := chunk_spec d (d k) l
    by_cases h : chunk d (d k) l < 8
    · have := (hs (at_ _ h l)).2 (ha h).symm
      have : (k : ℕ) ≤ 128 * chunk d (d k) l + l := this
      omega
    · omega
  refine fold_minsi_eq _ _ ⟨⟨k % 128, by omega⟩, ?_⟩ fun l => ?_
  · obtain ⟨-, -, hb⟩ := chunk_spec d (d k) ⟨k % 128, by omega⟩
    have hc : (k : ℕ) / 128 < 8 := by omega
    have e : at_ (k / 128) hc ⟨k % 128, by omega⟩ = k := Fin.ext (Nat.div_add_mod _ _)
    have h1 := hb (k / 128) hc (by rw [e])
    have h2 := hk ⟨k % 128, by omega⟩
    simp only at h2
    exact congrArg _ (show chunk d (d k) ⟨k % 128, by omega⟩ * 128 + k % 128 = k by omega)
  · obtain ⟨h8, -, -⟩ := chunk_spec d (d k) l
    rw [toInt_ofNat (by omega), toInt_ofNat (by omega)]
    exact_mod_cast hk l

end Cert.Row

end
-- ==== Proof.KerRow.lean ====
/- The kernel's stage read row by row: its indices, outputs and residuals are those of `Cert.Row` at each row of the
   block. -/
module

public import proofs.«01_k».proof.Proof.KerStage
public import proofs.«01_k».proof.Proof.Lanes
public import Idealize.ShloMosaic.PureOps.Ideal.Laws

@[expose] public section

set_option maxRecDepth 16384

noncomputable section

namespace Cert.KernelIdeal

open Idealize.ShloMosaic Idealize.SL.Sem Cert.KernelIdeal.Gen

/-- The entries of row `r` of a block. -/
def row (X : FVec Ideal S2048x64 .f32) (r : Fin 2048) (j : Fin 64) : EReal := X (ix2 r j)

/-- The codes of a book. -/
def codes (W : FVec Ideal S1024x64 .f32) (k : Fin 1024) (j : Fin 64) : EReal := W (ix2 k j)

/-- The word `0x7F800000` is the top. -/
theorem top_f32 : Ideal.ofBits .f32 0x7F800000#32 = ⊤ := by
  simp [Ideal.ofBits, Ideal.ieee]

/-- The squared length of a row. -/
theorem sq_apply (X : FVec Ideal S2048x64 .f32) (r : Fin 2048) (j : Fin 1) :
    sq X (ix2 r j) = ∑ l, row X r l * row X r l := by
  unfold row
  pointwise [sq]

/-- The distances of a row: the kernel doubles the codes in the product. -/
theorem dist_apply (X : FVec Ideal S2048x64 .f32) (W : FVec Ideal S1024x64 .f32) (r : Fin 2048) (k : Fin 1024) :
    dist X W (ix2 r k) = Row.dist (row X r) (codes W) k := by
  unfold Row.dist
  rw [← Row.sum_mul_add_self]
  unfold row codes
  pointwise [dist, sq]

/-- The smallest distance of a row. -/
theorem least_apply (D : FVec Ideal S2048x1024 .f32) (r : Fin 2048) (j : Fin 1) :
    least D (ix2 r j) = D (ix2 r (Row.firstMin fun k : Fin 1024 => D (ix2 r k))) := by
  rw [← Row.fold_min_eq fun k : Fin 1024 => D (ix2 r k), ← top_f32]
  pointwise [least]

/-- The chunk a lane attains the smallest distance in. -/
theorem chunk_apply (D : FVec Ideal S2048x1024 .f32) (M : FVec Ideal S2048x1 .f32) (r : Fin 2048) (l : Fin 128) :
    chunk D M (ix2 r l) = BitVec.ofNat 32 (Row.chunk (fun k => D (ix2 r k)) (M (ix2 r 0)) l) := by
  have e0 : Row.at_ 0 (by omega) l = ⟨l, by omega⟩ := Fin.ext (by simp [Row.at_])
  pointwise [chunk, lanes]
  unfold Row.chunk
  rw [e0]
  simp only [apply_ite (BitVec.ofNat 32)]
  rfl

/-- The index a row's lanes agree on. -/
theorem pick_apply (K : IVec S2048x128 32) (f : Fin 128 → ℕ) (r : Fin 2048) (j : Fin 1)
    (h : ∀ l, K (ix2 r l) = BitVec.ofNat 32 (f l)) :
    pick K (ix2 r j) = Finset.univ.fold IntOp.minsi 2147483647#32 fun l : Fin 128 => BitVec.ofNat 32 (f l * 128 + l) := by
  pointwise [pick]
  refine congrArg (fun g => Finset.univ.fold IntOp.minsi 2147483647#32 g) (funext fun l => ?_)
  rw [h, BitVec.ofNat_add, BitVec.ofNat_mul]
  rfl

/-- A stage's index. -/
theorem code_apply (X : FVec Ideal S2048x64 .f32) (W : FVec Ideal S1024x64 .f32) (r : Fin 2048) (j : Fin 1) :
    code X W (ix2 r j) = BitVec.ofNat 32 (Row.code (row X r) (codes W)) := by
  unfold code Row.code
  rw [pick_apply _ _ r j fun l => chunk_apply _ _ r l, least_apply]
  simp only [dist_apply]
  exact Row.fold_chunk_eq _

/-- A comparison's bit, widened, as a number. -/
theorem sitofp_eq (a b : BitVec 32) :
    (FloatOps.sitofp .f32 (BitVec.setWidth 32 (IntOp.cmpi .eq a b)) : Ideal .f32) = if a = b then 1 else 0 := by
  by_cases h : a = b
  · simp [h, FloatOps.sitofp, IntOp.cmpi]
  · simp [h, beq_false_of_ne h, FloatOps.sitofp, IntOp.cmpi]

/-- The product with the one-hot rows picks the codes. -/
theorem gather_apply (K : IVec S2048x1 32) (W : FVec Ideal S1024x64 .f32) (r : Fin 2048) (j : Fin 64) (c : Fin 1024)
    (h : K (ix2 r 0) = BitVec.ofNat 32 c) : gather K W (ix2 r j) = codes W c j := by
  unfold codes
  pointwise [gather]
  rw [← Row.sum_onehot c fun k => W (ix2 k j)]
  refine Finset.sum_congr rfl fun k _ => ?_
  rw [h, sitofp_eq]
  simp only [Row.ofNat_inj (show (k : ℕ) < 2 ^ 31 by omega) (show (c : ℕ) < 2 ^ 31 by omega), Fin.ext_iff]

/-- A stage's output. -/
theorem out_apply (X : FVec Ideal S2048x64 .f32) (W : FVec Ideal S1024x64 .f32) (r : Fin 2048) (j : Fin 64) :
    out X W (ix2 r j) = Row.out (row X r) (codes W) j := by
  unfold Row.out
  rw [← gather_apply (code X W) W r j _ (code_apply X W r 0)]
  unfold row
  pointwise [out]

/-- A stage's residual. -/
theorem row_next (X : FVec Ideal S2048x64 .f32) (W : FVec Ideal S1024x64 .f32) (r : Fin 2048) :
    row (next X W) r = Row.next (row X r) (codes W) := by
  funext j
  unfold Row.next
  rw [← out_apply]
  unfold row
  pointwise [next]

/-- The squared length of a stage's residual. -/
theorem sq_next (X : FVec Ideal S2048x64 .f32) (W : FVec Ideal S1024x64 .f32) (r : Fin 2048) (j : Fin 1) :
    sq (next X W) (ix2 r j) = Row.err (row X r) (codes W) := by
  rw [sq_apply, row_next]
  rfl

/-- A block's loss. -/
theorem total_apply (a b c d : FVec Ideal S2048x1 .f32) (j : S1x1x1.Idx) :
    total a b c d j = Ideal.ofBits .f32 0x3FA00000#32
      * Ideal.div (∑ r, (a (ix2 r 0) + b (ix2 r 0) + c (ix2 r 0) + d (ix2 r 0))) (Ideal.ofBits .f32 0x48000000#32) := by
  pointwise [total]
  simp

end Cert.KernelIdeal

end
-- ==== Proof.Chain.lean ====
/- The four stages of one row in turn, and the two ways of adding up the loss of all rows. -/
module

public import proofs.«01_k».proof.Proof.Row
public import Idealize.ShloMosaic.PureOps.Ideal
public import Idealize.ShloMosaic.PureOps.Ideal.Laws
public import Idealize.ShloMosaic.Lib.Pointwise

@[expose] public section

noncomputable section

namespace Cert.Row

open Idealize.ShloMosaic

/-- The residuals after one, two and three stages with the books `c`. -/
def res1 (x : Fin 64 → EReal) (c : Fin 4 → Fin 1024 → Fin 64 → EReal) : Fin 64 → EReal := next x (c 0)

@[inherit_doc res1]
def res2 (x : Fin 64 → EReal) (c : Fin 4 → Fin 1024 → Fin 64 → EReal) : Fin 64 → EReal := next (res1 x c) (c 1)

@[inherit_doc res1]
def res3 (x : Fin 64 → EReal) (c : Fin 4 → Fin 1024 → Fin 64 → EReal) : Fin 64 → EReal := next (res2 x c) (c 2)

/-- The reconstruction of a row: the four stages' outputs added. -/
def recon (x : Fin 64 → EReal) (c : Fin 4 → Fin 1024 → Fin 64 → EReal) (j : Fin 64) : EReal :=
  out x (c 0) j + out (res1 x c) (c 1) j + out (res2 x c) (c 2) j + out (res3 x c) (c 3) j

/-- The four indices of a row. -/
def index (x : Fin 64 → EReal) (c : Fin 4 → Fin 1024 → Fin 64 → EReal) : Fin 4 → BitVec 32 :=
  ![BitVec.ofNat 32 (code x (c 0)), BitVec.ofNat 32 (code (res1 x c) (c 1)), BitVec.ofNat 32 (code (res2 x c) (c 2)),
    BitVec.ofNat 32 (code (res3 x c) (c 3))]

/-- The squared length of the residual each stage leaves of a row. -/
def errs (x : Fin 64 → EReal) (c : Fin 4 → Fin 1024 → Fin 64 → EReal) : Fin 4 → EReal :=
  ![err x (c 0), err (res1 x c) (c 1), err (res2 x c) (c 2), err (res3 x c) (c 3)]

/-- The first stage's squared length. -/
theorem errs_0 (x : Fin 64 → EReal) (c : Fin 4 → Fin 1024 → Fin 64 → EReal) : errs x c 0 = err x (c 0) := rfl
/-- The second stage's squared length. -/
theorem errs_1 (x : Fin 64 → EReal) (c : Fin 4 → Fin 1024 → Fin 64 → EReal) : errs x c 1 = err (res1 x c) (c 1) := rfl
/-- The third stage's squared length. -/
theorem errs_2 (x : Fin 64 → EReal) (c : Fin 4 → Fin 1024 → Fin 64 → EReal) : errs x c 2 = err (res2 x c) (c 2) := rfl
/-- The fourth stage's squared length. -/
theorem errs_3 (x : Fin 64 → EReal) (c : Fin 4 → Fin 1024 → Fin 64 → EReal) : errs x c 3 = err (res3 x c) (c 3) := rfl

/-! ## The loss -/

/-- The word `0x3FA00000` is five quarters. -/
theorem f32_five_quarters : Ideal.ofBits .f32 0x3FA00000#32 = ((5 / 4 : ℝ) : EReal) := by
  simp [Ideal.ofBits, Ideal.ieee, ← EReal.coe_mul]; norm_num

/-- The word `0x3E800000` is a quarter. -/
theorem f32_quarter : Ideal.ofBits .f32 0x3E800000#32 = ((1 / 4 : ℝ) : EReal) := by
  simp [Ideal.ofBits, Ideal.ieee, ← EReal.coe_mul]; norm_num

/-- The word `0x3D800000` is a sixteenth. -/
theorem f32_sixteenth : Ideal.ofBits .f32 0x3D800000#32 = ((1 / 16 : ℝ) : EReal) := by
  simp [Ideal.ofBits, Ideal.ieee, ← EReal.coe_mul]; norm_num

/-- The word `0x48000000` is the number of a block's entries. -/
theorem f32_block : Ideal.ofBits .f32 0x48000000#32 = ((131072 : ℝ) : EReal) := by
  simp [Ideal.ofBits, Ideal.ieee, ← EReal.coe_mul]; norm_num

/-- The word `0x4A000000` is the number of all entries. -/
theorem f32_all : Ideal.ofBits .f32 0x4A000000#32 = ((2097152 : ℝ) : EReal) := by
  simp [Ideal.ofBits, Ideal.ieee, ← EReal.coe_mul]; norm_num

/-- What the loss multiplies a squared length by. -/
def weight : EReal := ((5 / 8388608 : ℝ) : EReal)

/-- The weight goes over a sum of any two extended reals, since it is a real number and not negative. -/
theorem weight_add (a b : EReal) : weight * (a + b) = weight * a + weight * b :=
  EReal.left_distrib_of_nonneg_of_ne_top (by exact_mod_cast (by norm_num : (0 : ℝ) ≤ 5 / 8388608))
    (EReal.coe_ne_top _) _ _

/-- A mean and a quarter of it. -/
theorem mean_quarter (E : EReal) :
    Ideal.div E (Ideal.ofBits .f32 0x4A000000#32)
      + Ideal.ofBits .f32 0x3E800000#32 * Ideal.div E (Ideal.ofBits .f32 0x4A000000#32) = weight * E := by
  rw [f32_all, f32_quarter, Ideal.div_coe (by norm_num)]
  set M := E * ((1 / 2097152 : ℝ) : EReal) with hM
  have h : ((1 : ℝ) : EReal) * M + ((1 / 4 : ℝ) : EReal) * M = (((1 : ℝ) : EReal) + ((1 / 4 : ℝ) : EReal)) * M :=
    (EReal.right_distrib_of_nonneg (by exact_mod_cast zero_le_one) (by exact_mod_cast (by norm_num : (0 : ℝ) ≤ 1 / 4))).symm
  rw [EReal.coe_one, one_mul] at h
  rw [h, hM, ← EReal.coe_one, ← EReal.coe_add, mul_comm E, ← mul_assoc, ← EReal.coe_mul]
  unfold weight
  norm_num

/-- A block's share of the loss. -/
theorem block_share (S : EReal) :
    ((1 / 16 : ℝ) : EReal) * (Ideal.ofBits .f32 0x3FA00000#32 * Ideal.div S (Ideal.ofBits .f32 0x48000000#32)) = weight * S := by
  rw [f32_block, f32_five_quarters, Ideal.div_coe (by norm_num), mul_comm S, ← mul_assoc, ← mul_assoc, ← EReal.coe_mul,
    ← EReal.coe_mul]
  unfold weight
  norm_num

/-- The sixteen blocks' losses averaged are the four stages' losses added. -/
theorem loss_eq (e : Fin 32768 → Fin 4 → EReal) :
    (∑ b : Fin 16, Ideal.ofBits .f32 0x3FA00000#32
        * Ideal.div (∑ r : Fin 2048, (e ⟨b * 2048 + r, by omega⟩ 0 + e ⟨b * 2048 + r, by omega⟩ 1
            + e ⟨b * 2048 + r, by omega⟩ 2 + e ⟨b * 2048 + r, by omega⟩ 3)) (Ideal.ofBits .f32 0x48000000#32))
        * Ideal.ofBits .f32 0x3D800000#32
      = weight * (∑ R, e R 0) + weight * (∑ R, e R 1) + weight * (∑ R, e R 2) + weight * (∑ R, e R 3) := by
  rw [f32_sixteenth, mul_comm, mul_sum_of_nonneg _ _ (by norm_num)]
  simp only [block_share]
  rw [← weight_add, ← weight_add, ← weight_add, ← Finset.sum_add_distrib, ← Finset.sum_add_distrib, ← Finset.sum_add_distrib]
  unfold weight
  rw [← mul_sum_of_nonneg _ _ (by norm_num), Fin.sum_univ_tiles 16 2048 rfl]

end Cert.Row

end
-- ==== Proof.KerValue.lean ====
/- What the kernel leaves in its three result arrays, row by row. -/
module

public import proofs.«01_k».proof.Proof.KerRow
public import proofs.«01_k».proof.Proof.Chain
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal

open Cert.KernelIdeal.Gen

/-! ## A block -/

section Block

variable (x0 : Vec Ideal S2048x64 .f32) (x1 : Vec Ideal S4x1024x64 .f32)

/-- Row `r` of a block of inputs. -/
def rowOf (r : Fin 2048) (j : Fin 64) : EReal := x0 (ix2 r j)

/-- The four books. -/
def booksOf (s : Fin 4) (k : Fin 1024) (j : Fin 64) : EReal := x1 (ix3 s k j)

/-- The whole block is read. -/
theorem ld0 : View.ld x0 r0_0 = x0 := by
  funext i; rw [eq_ix2 i]; pointwise

/-- The row the first stage works on. -/
theorem row0 (r : Fin 2048) : row x0 r = rowOf x0 r := rfl

/-- The first stage's book. -/
theorem codes0 : codes (k0_pay45 x0 x1) = booksOf x1 0 := by
  funext k j; unfold codes booksOf; pointwise [k0_pay45, k0_pay2]

/-- The second stage's book. -/
theorem codes1 : codes (k0_pay52 x0 x1) = booksOf x1 1 := by
  funext k j; unfold codes booksOf; pointwise [k0_pay52, k0_pay12]

/-- The third stage's book. -/
theorem codes2 : codes (k0_pay56 x0 x1) = booksOf x1 2 := by
  funext k j; unfold codes booksOf; pointwise [k0_pay56, k0_pay23]

/-- The fourth stage's book. -/
theorem codes3 : codes (k0_pay62 x0 x1) = booksOf x1 3 := by
  funext k j; unfold codes booksOf; pointwise [k0_pay62, k0_pay34]

/-- A row of the residual after one stage. -/
theorem row1 (r : Fin 2048) : row (k0_pay51 x0 x1) r = Row.res1 (rowOf x0 r) (booksOf x1) := by
  rw [next0_eq, row_next, ld0, row0, codes0]; rfl

/-- A row of the residual after two stages. -/
theorem row2 (r : Fin 2048) : row (k0_pay55 x0 x1) r = Row.res2 (rowOf x0 r) (booksOf x1) := by
  rw [next1_eq, row_next, row1, codes1]; rfl

/-- A row of the residual after three stages. -/
theorem row3 (r : Fin 2048) : row (k0_pay61 x0 x1) r = Row.res3 (rowOf x0 r) (booksOf x1) := by
  rw [next2_eq, row_next, row2, codes2]; rfl

/-- The block of reconstructions. -/
theorem recon_block (r : Fin 2048) (j : Fin 64) : out0_2 x0 x1 (ix2 r j) = Row.recon (rowOf x0 r) (booksOf x1) j := by
  rw [out0_2_eq, ld0]
  frame_out
  unfold Row.recon
  rw [← row1 x0 x1, ← row2 x0 x1, ← row3 x0 x1, ← row0 x0, ← codes0 x0 x1, ← codes1 x0 x1, ← codes2 x0 x1, ← codes3 x0 x1,
    ← out_apply, ← out_apply, ← out_apply, ← out_apply]
  pointwise

/-- One stage's column of indices. -/
theorem code_column (X : FVec Ideal S2048x64 .f32) (W : FVec Ideal S1024x64 .f32) (x : S2048x1.Idx) (r : Fin 2048)
    (h : (r : ℕ) = x 0) : code X W x = BitVec.ofNat 32 (Row.code (row X r) (codes W)) := by
  have e : x 0 = r := Fin.ext h.symm
  exact (congrArg (code X W) (eq_ix2 x)).trans ((code_apply X W (x 0) (x 1)).trans
    (congrArg (fun q => BitVec.ofNat 32 (Row.code (row X q) (codes W)).val) e))

/-- The block of indices. -/
theorem index_block (r : Fin 2048) (s : Fin 4) : out0_3 x0 x1 (ix2 r s) = Row.index (rowOf x0 r) (booksOf x1) s := by
  unfold out0_3
  rw [code0_eq, code1_eq, code2_eq, code3_eq, ld0]
  canon_tiles x h
  · obtain rfl : s = 3 := Fin.ext (h1.trans (by omega))
    exact (code_column _ _ x r h0).trans (by rw [row3, codes3]; rfl)
  · obtain rfl : s = 2 := Fin.ext (h1.trans (by omega))
    exact (code_column _ _ x r h0).trans (by rw [row2, codes2]; rfl)
  · obtain rfl : s = 1 := Fin.ext (h1.trans (by omega))
    exact (code_column _ _ x r h0).trans (by rw [row1, codes1]; rfl)
  · obtain rfl : s = 0 := Fin.ext (h1.trans (by omega))
    exact (code_column _ _ x r h0).trans (by rw [row0, codes0]; rfl)

/-- The four squared lengths of a row. -/
theorem sq_row (r : Fin 2048) : sq (k0_pay51 x0 x1) (ix2 r 0) + sq (k0_pay55 x0 x1) (ix2 r 0) + sq (k0_pay61 x0 x1) (ix2 r 0)
      + sq (next (k0_pay61 x0 x1) (k0_pay62 x0 x1)) (ix2 r 0)
    = Row.errs (rowOf x0 r) (booksOf x1) 0 + Row.errs (rowOf x0 r) (booksOf x1) 1
        + Row.errs (rowOf x0 r) (booksOf x1) 2 + Row.errs (rowOf x0 r) (booksOf x1) 3 := by
  have e0 : sq (k0_pay51 x0 x1) (ix2 r 0) = Row.errs (rowOf x0 r) (booksOf x1) 0 := by
    rw [next0_eq, sq_next, ld0, row0, codes0]; rfl
  have e1 : sq (k0_pay55 x0 x1) (ix2 r 0) = Row.errs (rowOf x0 r) (booksOf x1) 1 := by
    rw [next1_eq, sq_next, row1, codes1]; rfl
  have e2 : sq (k0_pay61 x0 x1) (ix2 r 0) = Row.errs (rowOf x0 r) (booksOf x1) 2 := by
    rw [next2_eq, sq_next, row2, codes2]; rfl
  have e3 : sq (next (k0_pay61 x0 x1) (k0_pay62 x0 x1)) (ix2 r 0) = Row.errs (rowOf x0 r) (booksOf x1) 3 := by
    rw [sq_next, row3, codes3]; rfl
  rw [e0, e1, e2, e3]

/-- The loss of a block of 2048 rows. -/
def blockLoss (x : Fin 2048 → Fin 64 → EReal) (c : Fin 4 → Fin 1024 → Fin 64 → EReal) : EReal :=
  Ideal.ofBits .f32 0x3FA00000#32 * Ideal.div (∑ r, (Row.errs (x r) c 0 + Row.errs (x r) c 1 + Row.errs (x r) c 2
    + Row.errs (x r) c 3)) (Ideal.ofBits .f32 0x48000000#32)

/-- The block's loss. -/
theorem loss_block (y : S1x1x1.Idx) : out0_4 x0 x1 y = blockLoss (rowOf x0) (booksOf x1) := by
  rw [out0_4_eq]
  frame_out
  rw [total_apply]
  simp only [sq_row]
  rfl

end Block

/-! ## The whole arrays -/

/-- Row `R` of all inputs. -/
def rowAt (X : Vec Ideal S32768x64 .f32) (R : Fin 32768) (j : Fin 64) : EReal := X (ix2 R j)

/-- All reconstructions. -/
def recF (X : Vec Ideal S32768x64 .f32) (C : Vec Ideal S4x1024x64 .f32) : Vec Ideal S32768x64 .f32 :=
  fun i => Row.recon (rowAt X (i 0)) (booksOf C) (i 1)

/-- All indices. -/
def idxF (X : Vec Ideal S32768x64 .f32) (C : Vec Ideal S4x1024x64 .f32) : Vec Ideal S32768x4 .i32 :=
  fun i => Row.index (rowAt X (i 0)) (booksOf C) (i 1)

/-- Row `r` of block `b`. -/
def rowIn (b : Fin 16) (r : Fin 2048) : Fin 32768 := ⟨b * 2048 + r, by omega⟩

/-- The blocks' losses. -/
def blkF (X : Vec Ideal S32768x64 .f32) (C : Vec Ideal S4x1024x64 .f32) : Vec Ideal S16x1x1 .f32 :=
  fun i => blockLoss (fun r => rowAt X (rowIn (i 0) r)) (booksOf C)

/-- Which block each window shows at a grid point. -/
theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0, 0] :=
  (by decide +kernel : ∀ t : Fin grid0.N, _)

variable (m : (ℓ : Loc nD τ sig) → Buf (Elt Ideal) ℓ)

/-- The books are shown whole at every point. -/
theorem books_iblk (c : Dev nD) (t : Fin cfg0.N) :
    booksOf (show FVec Ideal S4x1024x64 .f32 from iblk m c 1 t) = booksOf (m ((c : Thread nD τ).loc main_arg1)) := by
  funext s k j
  unfold booksOf
  blk_point [iblk, V, idx t]

/-- A point's block of inputs, row by row. -/
theorem rows_iblk (c : Dev nD) (t : Fin cfg0.N) (r : Fin 2048) (R : Fin 32768) (h : (R : ℕ) = t.val * 2048 + r) :
    rowOf (show FVec Ideal S2048x64 .f32 from iblk m c 0 t) r = rowAt (m ((c : Thread nD τ).loc main_arg0)) R := by
  funext j
  unfold rowOf rowAt
  show (_ : EReal) = _
  blk_point [iblk, V, idx t]

/-- A block of reconstructions is a piece of all reconstructions. -/
theorem recon_piece (x0 : Vec Ideal S2048x64 .f32) (x1 C : Vec Ideal S4x1024x64 .f32) (X : Vec Ideal S32768x64 .f32)
    (y : S2048x64.Idx) (i : S32768x64.Idx) (hx : rowOf x0 (y 0) = rowAt X (i 0)) (hc : booksOf x1 = booksOf C)
    (h1 : (i 1 : ℕ) = y 1) : out0_2 x0 x1 y = recF X C i := by
  have e : i 1 = y 1 := Fin.ext h1
  unfold recF
  rw [← hx, ← hc]
  exact (congrArg (out0_2 x0 x1) (eq_ix2 y)).trans ((recon_block x0 x1 (y 0) (y 1)).trans
    (congrArg (Row.recon (rowOf x0 (y 0)) (booksOf x1)) e.symm))

/-- A block of indices is a piece of all indices. -/
theorem index_piece (x0 : Vec Ideal S2048x64 .f32) (x1 C : Vec Ideal S4x1024x64 .f32) (X : Vec Ideal S32768x64 .f32)
    (y : S2048x4.Idx) (i : S32768x4.Idx) (hx : rowOf x0 (y 0) = rowAt X (i 0)) (hc : booksOf x1 = booksOf C)
    (h1 : (i 1 : ℕ) = y 1) : out0_3 x0 x1 y = idxF X C i := by
  have e : i 1 = y 1 := Fin.ext h1
  unfold idxF
  rw [← hx, ← hc]
  exact (congrArg (out0_3 x0 x1) (eq_ix2 y)).trans ((index_block x0 x1 (y 0) (y 1)).trans
    (congrArg (Row.index (rowOf x0 (y 0)) (booksOf x1)) e.symm))

/-- The array of reconstructions after the run. -/
theorem final2 (c : Dev nD) : (dats m 0 c).arrAt 2 cfg0.N
    = recF (m ((c : Thread nD τ).loc main_arg0)) (m ((c : Thread nD τ).loc main_arg1)) := by
  refine (dats m 0 c).arrAt_eq_of_covers 2 _ (by decide +kernel) fun t hf y => ?_
  blk_simp [idx t]
  rw [after0_2]
  exact recon_piece _ _ _ _ y _ (rows_iblk m c t (y 0) _ (by blk_simp [idx t])) (books_iblk m c t) (by blk_simp [idx t])

/-- The array of indices after the run. -/
theorem final3 (c : Dev nD) : (dats m 0 c).arrAt 3 cfg0.N
    = idxF (m ((c : Thread nD τ).loc main_arg0)) (m ((c : Thread nD τ).loc main_arg1)) := by
  refine (dats m 0 c).arrAt_eq_of_covers 3 _ (by decide +kernel) fun t hf y => ?_
  blk_simp [idx t]
  rw [after0_3]
  exact index_piece _ _ _ _ y _ (rows_iblk m c t (y 0) _ (by blk_simp [idx t])) (books_iblk m c t) (by blk_simp [idx t])

/-- A block's loss is an entry of all blocks' losses. -/
theorem loss_piece (x0 : Vec Ideal S2048x64 .f32) (x1 C : Vec Ideal S4x1024x64 .f32) (X : Vec Ideal S32768x64 .f32)
    (y : S1x1x1.Idx) (i : S16x1x1.Idx)
    (hx : ∀ (r : Fin 2048) (R : Fin 32768), (R : ℕ) = (i 0 : ℕ) * 2048 + r → rowOf x0 r = rowAt X R)
    (hc : booksOf x1 = booksOf C) : out0_4 x0 x1 y = blkF X C i :=
  (loss_block x0 x1 y).trans (congrArg₂ blockLoss (funext fun r => hx r (rowIn (i 0) r) rfl) hc)

/-- The array of the blocks' losses after the run. -/
theorem final4 (c : Dev nD) : (dats m 0 c).arrAt 4 cfg0.N
    = blkF (m ((c : Thread nD τ).loc main_arg0)) (m ((c : Thread nD τ).loc main_arg1)) := by
  refine (dats m 0 c).arrAt_eq_of_covers 4 _ (by decide +kernel) fun t hf y => ?_
  blk_simp [idx t]
  rw [after0_4]
  have hi : (((win0_4.blk t).view.emb y) 0 : ℕ) = t.val := by blk_simp [idx t]
  exact loss_piece _ _ _ _ y _ (fun r R h => rows_iblk m c t r R (by rw [h, hi])) (books_iblk m c t)

/-! ## The loss -/

/-- The mean of the blocks' losses. -/
def mean16 (P : FVec Ideal S16x1x1 .f32) : FVec Ideal S_ .f32 :=
  mulf (Host.reduceAdd P (constant S_ .f32 0x00000000#32) reducesTo_S16x1x1_S_d0_1_2 h_S_) (constant S_ .f32 0x3D800000#32)

/-- The mean is the sum over the sixteen blocks times a sixteenth. -/
theorem mean16_apply (P : FVec Ideal S16x1x1 .f32) (j : S_.Idx) :
    mean16 P j = (∑ b : Fin 16, P (ix3 b 0 0)) * Ideal.ofBits .f32 0x3D800000#32 := by
  pointwise [mean16]
  simp

/-- The loss of all rows: four stages' weighted squared lengths. -/
def lossF (X : Vec Ideal S32768x64 .f32) (C : Vec Ideal S4x1024x64 .f32) : EReal :=
  Row.weight * (∑ R, Row.errs (rowAt X R) (booksOf C) 0) + Row.weight * (∑ R, Row.errs (rowAt X R) (booksOf C) 1)
    + Row.weight * (∑ R, Row.errs (rowAt X R) (booksOf C) 2) + Row.weight * (∑ R, Row.errs (rowAt X R) (booksOf C) 3)

/-- The mean of the blocks' losses is the loss of all rows. -/
theorem mean16_blkF (X : Vec Ideal S32768x64 .f32) (C : Vec Ideal S4x1024x64 .f32) (j : S_.Idx) :
    mean16 (blkF X C) j = lossF X C :=
  (mean16_apply _ j).trans (Row.loss_eq fun R => Row.errs (rowAt X R) (booksOf C))

/-- The lines after the launch average what the array of the blocks' losses holds. -/
theorem after_host (V : Valuation τ sig (Elt Ideal)) :
    StableHlo.after hostOps1 V (Proc.devRef .tc main_v0_2) = mean16 (V (Proc.devRef .tc main_call0_v0_2)) := by
  simp only [hostOps1]
  after_reads_simp
  rfl

/-- The loss after the run. -/
theorem tail_loss (c : Dev nD) : Pipeline.afterTail₀ cfgs (dats m) 0 (V0 m) [hostOps1] c main_v0_2
    = fun _ => lossF (m ((c.tc : Thread nD τ).loc main_arg0)) (m ((c.tc : Thread nD τ).loc main_arg1)) := by
  unfold Pipeline.afterTail₀
  rw [List.flatten_cons, List.flatten_nil, List.append_nil]
  refine (after_host _).trans ?_
  have h := Pipeline.withArrays_arr (cfgs 0).spec (by decide +kernel) c (V0 m c)
    (fun w => (dats m 0 c).arrAt w (cfgs 0).N) 4
  refine (congrArg mean16 (h.trans (final4 m c))).trans ?_
  funext j
  exact mean16_blkF _ _ j

/-- The kernel's run: its three results in closed form, and its arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = recF (m ((c.tc : Thread nD τ).loc main_arg0)) (m ((c.tc : Thread nD τ).loc main_arg1))
      ∧ r.2.mem ((c.tc : Thread nD τ).loc main_v0_1) = idxF (m ((c.tc : Thread nD τ).loc main_arg0)) (m ((c.tc : Thread nD τ).loc main_arg1))
      ∧ r.2.mem ((c.tc : Thread nD τ).loc main_v0_2)
        = (fun _ => lossF (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g
  · exact final2 m c
  · exact final3 m c
  · exact tail_loss m c

end Cert.KernelIdeal

end
-- ==== Proof.RefStage.lean ====
/- The reference, one residual stage at a time: each of its four stages is the same composition of host
   operations, named here over a stage's input `X` and its code book `W`. -/
module

public import proofs.«01_k».proof.Proof.Gen.ReferenceIdeal
public import Idealize.ShloMosaic.PureOps.Ideal
public import Idealize.ShloMosaic.Lib.Claim

@[expose] public section

noncomputable section

namespace Cert.ReferenceIdeal

open Idealize.ShloMosaic Idealize.SL.Sem Cert.ReferenceIdeal.Gen

/-- The code book of stage `0`. -/
def cb0 (C : FVec Ideal S4x1024x64 .f32) : FVec Ideal S1024x64 .f32 :=
  shapeCast S1024x64 (extractStridedSlice S1x1024x64 ![0, 0, 0] C slices_S4x1024x64_S1x1024x64_0_0_0)
    shapeCasts_S1x1024x64_S1024x64
/-- The code book of stage `1`. -/
def cb1 (C : FVec Ideal S4x1024x64 .f32) : FVec Ideal S1024x64 .f32 :=
  shapeCast S1024x64 (extractStridedSlice S1x1024x64 ![1, 0, 0] C slices_S4x1024x64_S1x1024x64_1_0_0)
    shapeCasts_S1x1024x64_S1024x64
/-- The code book of stage `2`. -/
def cb2 (C : FVec Ideal S4x1024x64 .f32) : FVec Ideal S1024x64 .f32 :=
  shapeCast S1024x64 (extractStridedSlice S1x1024x64 ![2, 0, 0] C slices_S4x1024x64_S1x1024x64_2_0_0)
    shapeCasts_S1x1024x64_S1024x64
/-- The code book of stage `3`. -/
def cb3 (C : FVec Ideal S4x1024x64 .f32) : FVec Ideal S1024x64 .f32 :=
  shapeCast S1024x64 (extractStridedSlice S1x1024x64 ![3, 0, 0] C slices_S4x1024x64_S1x1024x64_3_0_0)
    shapeCasts_S1x1024x64_S1024x64

/-- The squared distances of every row of `X` to every code of `W`. -/
def dist (X : FVec Ideal S32768x64 .f32) (W : FVec Ideal S1024x64 .f32) : FVec Ideal S32768x1024 .f32 :=
  subf
    (addf
      (broadcastInDim S32768x1024 ![0, 1] bcast_S32768x1_S32768x1024_0_1
        (broadcastInDim S32768x1 ![0] bcast_S32768_S32768x1_0
          (Host.reduceAdd (mulf X X) (constant S_ .f32 0x00000000#32) reducesTo_S32768x64_S32768_d1 h_S_)))
      (broadcastInDim S32768x1024 ![0, 1] bcast_S1x1024_S32768x1024_0_1
        (broadcastInDim S1x1024 ![1] bcast_S1024_S1x1024_1
          (Host.reduceAdd (mulf W W) (constant S_ .f32 0x00000000#32) reducesTo_S1024x64_S1024_d1 h_S_))))
    (mulf (broadcastInDim S32768x1024 ![] bcast_S_S32768x1024 (constant S_ .f32 0x40000000#32))
      (Host.dotGeneral dot_S32768x64_S64x1024_S32768x1024_1_0_0_1_n_n none X
        (transpose S64x1024 [1, 0] W transposes_S1024x64_S64x1024_1_0)))

/-- The second results of a reduction of pairs. -/
def argSnd {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t)
    (hu : 0 < u.numel) : IVec t 32 :=
  fun j => (Host.argReduce f x y ix iy h hu j).2

/-- The first index of every row's smallest entry. -/
def argmin (D : FVec Ideal S32768x1024 .f32) : IVec S32768 32 :=
  argSnd (reducer_argmin_f32_i32 (F := Ideal)) D (iotaInDim S32768x1024 32 1) (constant S_ .f32 0x7F800000#32)
    (constantI S_ 32 0#32) reducesTo_S32768x1024_S32768_d1 h_S_

/-- The code indices of a stage. -/
def code (X : FVec Ideal S32768x64 .f32) (W : FVec Ideal S1024x64 .f32) : IVec S32768 32 := argmin (dist X W)

/-- The rows of `W` that the indices `K` choose, as a product with their one-hot rows. -/
def gather (K : IVec S32768 32) (W : FVec Ideal S1024x64 .f32) : FVec Ideal S32768x64 .f32 :=
  Host.dotGeneral dot_S32768x1024_S1024x64_S32768x64_1_0_0_1_n_n none
    (uitofp .f32
      (cmpi .eq
        (broadcastInDim S32768x1024 ![0, 1] bcast_S32768x1_S32768x1024_0_1
          (broadcastInDim S32768x1 ![0] bcast_S32768_S32768x1_0 K))
        (broadcastInDim S32768x1024 ![0, 1] bcast_S1x1024_S32768x1024_0_1 (iotaInDim S1x1024 32 1)))) W

/-- The straight-through value `x + (q - x)` of a stage. -/
def ste (X Q : FVec Ideal S32768x64 .f32) : FVec Ideal S32768x64 .f32 := addf X (subf Q X)

/-- The mean of the squared differences `(x - q)²`. -/
def mean (X Q : FVec Ideal S32768x64 .f32) : FVec Ideal S_ .f32 :=
  Host.divf
    (Host.reduceAdd (mulf (subf X Q) (subf X Q)) (constant S_ .f32 0x00000000#32) reducesTo_S32768x64_S_d0_1 h_S_)
    (constant S_ .f32 0x4A000000#32)

/-- A stage's loss: the code book term plus a quarter of the commitment term. -/
def loss (X Q : FVec Ideal S32768x64 .f32) : FVec Ideal S_ .f32 :=
  addf (mean X Q) (mulf (constant S_ .f32 0x3E800000#32) (mean X Q))

/-- A stage's chosen codes. -/
def zq (X : FVec Ideal S32768x64 .f32) (W : FVec Ideal S1024x64 .f32) : FVec Ideal S32768x64 .f32 := gather (code X W) W

/-- A stage's straight-through output. -/
def out (X : FVec Ideal S32768x64 .f32) (W : FVec Ideal S1024x64 .f32) : FVec Ideal S32768x64 .f32 := ste X (zq X W)

/-- The residual a stage leaves. -/
def next (X : FVec Ideal S32768x64 .f32) (W : FVec Ideal S1024x64 .f32) : FVec Ideal S32768x64 .f32 := subf X (out X W)

/-- The sum of the four stages' outputs. -/
def stack (a b c d : FVec Ideal S32768x64 .f32) : FVec Ideal S32768x64 .f32 :=
  Host.reduceAdd
    (concatenate S4x32768x64 0
      [⟨S1x32768x64, broadcastInDim S1x32768x64 ![1, 2] bcast_S32768x64_S1x32768x64_1_2 a⟩,
        ⟨S1x32768x64, broadcastInDim S1x32768x64 ![1, 2] bcast_S32768x64_S1x32768x64_1_2 b⟩,
        ⟨S1x32768x64, broadcastInDim S1x32768x64 ![1, 2] bcast_S32768x64_S1x32768x64_1_2 c⟩,
        ⟨S1x32768x64, broadcastInDim S1x32768x64 ![1, 2] bcast_S32768x64_S1x32768x64_1_2 d⟩]
      concatenates_S1x32768x64_S1x32768x64_S1x32768x64_S1x32768x64_S4x32768x64_d0)
    (constant S_ .f32 0x00000000#32) reducesTo_S4x32768x64_S32768x64_d0 h_S_

/-- The four stages' indices, a column each. -/
def columns (a b c d : IVec S32768 32) : IVec S32768x4 32 :=
  concatenate S32768x4 1
    [⟨S32768x1, broadcastInDim S32768x1 ![0] bcast_S32768_S32768x1_0 a⟩,
      ⟨S32768x1, broadcastInDim S32768x1 ![0] bcast_S32768_S32768x1_0 b⟩,
      ⟨S32768x1, broadcastInDim S32768x1 ![0] bcast_S32768_S32768x1_0 c⟩,
      ⟨S32768x1, broadcastInDim S32768x1 ![0] bcast_S32768_S32768x1_0 d⟩]
    concatenates_S32768x1_S32768x1_S32768x1_S32768x1_S32768x4_d1

end Cert.ReferenceIdeal

end
-- ==== Proof.RefRow.lean ====
/- The reference's stage read row by row: its indices, outputs, residuals and losses are those of
   `Cert.Row` at each row. -/
module

public import proofs.«01_k».proof.Proof.RefStage
public import proofs.«01_k».proof.Proof.Row
public import Idealize.ShloMosaic.Lib.Pointwise
public import Idealize.ShloMosaic.PureOps.Ideal.Laws

@[expose] public section

set_option maxRecDepth 16384

noncomputable section

namespace Cert.ReferenceIdeal

open Idealize.ShloMosaic Idealize.SL.Sem Cert.ReferenceIdeal.Gen

/-- The entries of row `r`. -/
def row (X : FVec Ideal S32768x64 .f32) (r : Fin 32768) (j : Fin 64) : EReal := X (ix2 r j)

/-- The codes of a book. -/
def book (W : FVec Ideal S1024x64 .f32) (k : Fin 1024) (j : Fin 64) : EReal := W (ix2 k j)

/-- The word `0x40000000` is two. -/
theorem two_f32 : Ideal.ofBits .f32 0x40000000#32 = 2 := by
  simp [Ideal.ofBits, Ideal.ieee, ← EReal.coe_mul]; norm_num; rfl

/-- The word `0x7F800000` is the top. -/
theorem top_f32 : Ideal.ofBits .f32 0x7F800000#32 = ⊤ := by
  simp [Ideal.ofBits, Ideal.ieee]

/-- The distances of a row. -/
theorem dist_apply (X : FVec Ideal S32768x64 .f32) (W : FVec Ideal S1024x64 .f32) (r : Fin 32768) (k : Fin 1024) :
    dist X W (ix2 r k) = Row.dist (row X r) (book W) k := by
  unfold Row.dist row book
  pointwise [dist]
  rw [two_f32]

/-! ## The index of the smallest distance -/

/-- The reduction's body picks the earlier of two pairs. -/
theorem reducer_pick (a b : EReal × BitVec 32) :
    (reducer_argmin_f32_i32 (F := Ideal) a b = a ∨ reducer_argmin_f32_i32 (F := Ideal) a b = b)
      ∧ Row.Lex (reducer_argmin_f32_i32 (F := Ideal) a b) a ∧ Row.Lex (reducer_argmin_f32_i32 (F := Ideal) a b) b := by
  obtain ⟨a, i⟩ := a
  obtain ⟨b, k⟩ := b
  simp only [reducer_argmin_f32_i32, Ideal.cmpf_def, Ideal.cmp, IntOp.cmpi, IntOp.ori, IntOp.andi, Scalar.select, Row.Lex]
  rcases lt_trichotomy a b with h | h | h
  · have := h.ne
    simp [h, this]
  · subst h
    by_cases g : i.slt k = true
    · have g' : i.toInt < k.toInt := by simpa [BitVec.slt] using g
      simp [g]; omega
    · have g' : ¬ i.toInt < k.toInt := by simpa [BitVec.slt] using g
      simp [g]; omega
  · have := h.ne'
    simp [h, h.not_gt, this]

/-- A reduction of pairs by a body that picks the earlier pair gives one of the reduced pairs or the initial one, and that
    comes no later than any reduced one. -/
theorem argReduce_lex {s t u : Shape} {axes : List (Fin s.rank)}
    (f : EReal × BitVec 32 → EReal × BitVec 32 → EReal × BitVec 32)
    (hf : ∀ a b, (f a b = a ∨ f a b = b) ∧ Row.Lex (f a b) a ∧ Row.Lex (f a b) b)
    (x : FVec Ideal s .f32) (y : IVec s 32) (ix : FVec Ideal u .f32) (iy : IVec u 32) (h : s.ReducesTo axes t)
    (hu : 0 < u.numel) (j : t.Idx) :
    ((Host.argReduce (F := Ideal) (φ := .f32) f x y ix iy h hu j = (ix (Shape.Idx.first hu), iy (Shape.Idx.first hu)))
        ∨ ∃ i, h.drop i = j ∧ Host.argReduce (F := Ideal) (φ := .f32) f x y ix iy h hu j = (x i, y i))
      ∧ ∀ i, h.drop i = j → Row.Lex (Host.argReduce (F := Ideal) (φ := .f32) f x y ix iy h hu j) (x i, y i) := by
  rw [Ideal.argReduce_eq_reduce2, Host.reduce2_eq_foldl_fiber]
  obtain ⟨h1, -, h3⟩ := Row.foldl_pick f Row.Lex Row.Lex.refl Row.Lex.trans hf (Host.argReduceFiber x y h j)
    (ix (Shape.Idx.first hu), iy (Shape.Idx.first hu))
  refine ⟨h1.imp_right fun g => ?_, fun i hi => h3 _ ?_⟩
  · unfold Host.argReduceFiber at g
    obtain ⟨n, hn, e⟩ := List.mem_map.1 g
    exact ⟨s.rowMajor.symm n, by simpa using (List.mem_filter.1 hn).2, e.symm⟩
  · exact List.mem_map.2 ⟨s.rowMajor i, List.mem_filter.2 ⟨List.mem_finRange _, by simpa using hi⟩, by simp⟩

/-- A reduction of an entry with its index, by a body that picks the earlier pair, gives the first index of a smallest entry:
    `e` lists the reduced indices. -/
theorem argReduce_snd {s t u : Shape} {axes : List (Fin s.rank)} {n : ℕ} [NeZero n] (hn : n ≤ 2 ^ 31)
    (f : EReal × BitVec 32 → EReal × BitVec 32 → EReal × BitVec 32)
    (hf : ∀ a b, (f a b = a ∨ f a b = b) ∧ Row.Lex (f a b) a ∧ Row.Lex (f a b) b)
    (x : FVec Ideal s .f32) (y : IVec s 32) (ix : FVec Ideal u .f32) (iy : IVec u 32) (h : s.ReducesTo axes t)
    (hu : 0 < u.numel) (j : t.Idx) (hix : ∀ i, ix i = (⊤ : EReal)) (hiy : ∀ i, iy i = 0#32) (e : Fin n → s.Idx)
    (hy : ∀ k, y (e k) = BitVec.ofNat 32 k) (he : ∀ i, h.drop i = j ↔ ∃ k, e k = i) :
    argSnd f x y ix iy h hu j = BitVec.ofNat 32 (Row.firstMin fun k => x (e k)) := by
  obtain ⟨h1, h2⟩ := argReduce_lex f hf x y ix iy h hu j
  refine Row.snd_eq_firstMin hn (fun k => x (e k)) _ ?_ fun l => ?_
  · rcases h1 with g | ⟨i, hi, g⟩
    · exact .inl (by rw [g, hix, hiy])
    · obtain ⟨k, rfl⟩ := (he i).1 hi
      exact .inr ⟨k, by rw [g, hy]⟩
  · have := h2 (e l) ((he _).2 ⟨l, rfl⟩)
    rwa [hy] at this

/-- The indices a row's reduction runs over are the row's. -/
theorem drop_eq_iff (i : S32768x1024.Idx) (r : Fin 32768) :
    reducesTo_S32768x1024_S32768_d1.drop i = ix1 r ↔ ∃ k : Fin 1024, ix2 r k = i := by
  have e := reducesTo_S32768x1024_S32768_d1.drop_apply_val_of_eq i 0 0
  constructor
  · intro h
    rw [h] at e
    exact ⟨i 1, by rw [show r = i 0 from Fin.ext e]; exact (eq_ix2 i).symm⟩
  · rintro ⟨k, rfl⟩
    rw [eq_ix1 (reducesTo_S32768x1024_S32768_d1.drop (ix2 r k))]
    exact congrArg ix1 (Fin.ext e)

/-- The numbers of a row's entries. -/
theorem iota_apply (r : Fin 32768) (k : Fin 1024) : iotaInDim S32768x1024 32 1 (ix2 r k) = BitVec.ofNat 32 k := by
  pointwise

/-- The reduction starts at the top. -/
theorem top_apply (i : S_.Idx) : (constant S_ .f32 0x7F800000#32 : FVec Ideal S_ .f32) i = (⊤ : EReal) := by
  pointwise [top_f32]

/-- The reduction starts at number zero. -/
theorem zero_apply (i : S_.Idx) : constantI S_ 32 0#32 i = 0#32 := by
  pointwise

/-- A row's index is the first index of its smallest entry. -/
theorem argmin_apply (D : FVec Ideal S32768x1024 .f32) (r : Fin 32768) :
    argmin D (ix1 r) = BitVec.ofNat 32 (Row.firstMin fun k : Fin 1024 => D (ix2 r k)) := by
  exact argReduce_snd (n := 1024) (by norm_num) (reducer_argmin_f32_i32 (F := Ideal)) reducer_pick D (iotaInDim S32768x1024 32 1)
    (constant S_ .f32 0x7F800000#32) (constantI S_ 32 0#32) reducesTo_S32768x1024_S32768_d1 h_S_ (ix1 r)
    top_apply zero_apply (fun k : Fin 1024 => ix2 r k) (iota_apply r) fun i => drop_eq_iff i r

/-- A stage's index. -/
theorem code_apply (X : FVec Ideal S32768x64 .f32) (W : FVec Ideal S1024x64 .f32) (r : Fin 32768) :
    code X W (ix1 r) = BitVec.ofNat 32 (Row.code (row X r) (book W)) := by
  unfold code Row.code
  rw [argmin_apply]
  simp only [dist_apply]

/-! ## The chosen code, the output and the residual -/

/-- A comparison's bit as a number. -/
theorem uitofp_eq (a b : BitVec 32) :
    (FloatOps.uitofp .f32 (IntOp.cmpi .eq a b) : Ideal .f32) = if a = b then 1 else 0 := by
  by_cases h : a = b
  · simp [h, FloatOps.uitofp, IntOp.cmpi]
  · simp [h, FloatOps.uitofp, IntOp.cmpi]

/-- The product with the one-hot rows picks the codes. -/
theorem gather_apply (K : IVec S32768 32) (W : FVec Ideal S1024x64 .f32) (r : Fin 32768) (j : Fin 64) (c : Fin 1024)
   (h : K (ix1 r) = BitVec.ofNat 32 c) :
    gather K W (ix2 r j) = book W c j := by
  unfold book
  pointwise [gather]
  rw [← Row.sum_onehot c fun k => W (ix2 k j)]
  refine Finset.sum_congr rfl fun k _ => ?_
  rw [h, uitofp_eq]
  simp only [Row.ofNat_inj (show (c : ℕ) < 2 ^ 31 by omega) (show (k : ℕ) < 2 ^ 31 by omega), Fin.ext_iff, eq_comm]

/-- A stage's chosen code. -/
theorem zq_apply (X : FVec Ideal S32768x64 .f32) (W : FVec Ideal S1024x64 .f32) (r : Fin 32768) (j : Fin 64) :
    zq X W (ix2 r j) = book W (Row.code (row X r) (book W)) j :=
  gather_apply _ _ _ _ _ (code_apply X W r)

/-- A stage's output. -/
theorem out_apply (X : FVec Ideal S32768x64 .f32) (W : FVec Ideal S1024x64 .f32) (r : Fin 32768) (j : Fin 64) :
    out X W (ix2 r j) = Row.out (row X r) (book W) j := by
  unfold Row.out
  rw [← zq_apply]
  unfold row
  pointwise [out, ste]

/-- A stage's residual. -/
theorem row_next (X : FVec Ideal S32768x64 .f32) (W : FVec Ideal S1024x64 .f32) (r : Fin 32768) :
    row (next X W) r = Row.next (row X r) (book W) := by
  funext j
  unfold Row.next
  rw [← out_apply]
  unfold row
  pointwise [next]

/-- A mean squared difference at an index. -/
theorem mean_apply (X Q : FVec Ideal S32768x64 .f32) (j : S_.Idx) :
    mean X Q j = Ideal.div (∑ r, ∑ l, (X (ix2 r l) - Q (ix2 r l)) * (X (ix2 r l) - Q (ix2 r l))) (Ideal.ofBits .f32 0x4A000000#32) := by
  pointwise [mean]

/-- The squared differences of a row add up to the squared length of its residual. -/
theorem sum_sq (X : FVec Ideal S32768x64 .f32) (W : FVec Ideal S1024x64 .f32) (r : Fin 32768) :
    ∑ l, (X (ix2 r l) - zq X W (ix2 r l)) * (X (ix2 r l) - zq X W (ix2 r l)) = Row.err (row X r) (book W) := by
  unfold Row.err Row.next Row.out
  refine Finset.sum_congr rfl fun l _ => ?_
  rw [zq_apply, Row.sq_residual]
  unfold row
  rfl

/-- A stage's mean squared difference is that of the residuals. -/
theorem mean_zq (X : FVec Ideal S32768x64 .f32) (W : FVec Ideal S1024x64 .f32) (j : S_.Idx) :
    mean X (zq X W) j = Ideal.div (∑ r, Row.err (row X r) (book W)) (Ideal.ofBits .f32 0x4A000000#32) := by
  rw [mean_apply]
  simp only [sum_sq]

/-- The four outputs added, in the order of the stages. -/
theorem stack_apply (a b c d : FVec Ideal S32768x64 .f32) (r : Fin 32768) (j : Fin 64) :
    stack a b c d (ix2 r j) = a (ix2 r j) + b (ix2 r j) + c (ix2 r j) + d (ix2 r j) := by
  pointwise [stack]
  rw [Fin.sum_univ_four]
  rfl

/-- The four columns of indices. -/
theorem columns_apply (a b c d : IVec S32768 32) (r : Fin 32768) (j : Fin 4) :
    columns a b c d (ix2 r j) = (![a (ix1 r), b (ix1 r), c (ix1 r), d (ix1 r)] : Fin 4 → BitVec 32) j := by
  pointwise [columns]
  fin_cases j <;> rfl

/-! ## The four books -/

/-- Book 0 is the slice 0 of all books. -/
theorem book_cb0 (C : FVec Ideal S4x1024x64 .f32) : book (cb0 C) = fun k j => C (ix3 0 k j) := by
  funext k j; unfold book; pointwise [cb0]

/-- Book 1 is the slice 1 of all books. -/
theorem book_cb1 (C : FVec Ideal S4x1024x64 .f32) : book (cb1 C) = fun k j => C (ix3 1 k j) := by
  funext k j; unfold book; pointwise [cb1]

/-- Book 2 is the slice 2 of all books. -/
theorem book_cb2 (C : FVec Ideal S4x1024x64 .f32) : book (cb2 C) = fun k j => C (ix3 2 k j) := by
  funext k j; unfold book; pointwise [cb2]

/-- Book 3 is the slice 3 of all books. -/
theorem book_cb3 (C : FVec Ideal S4x1024x64 .f32) : book (cb3 C) = fun k j => C (ix3 3 k j) := by
  funext k j; unfold book; pointwise [cb3]

end Cert.ReferenceIdeal

end
-- ==== Proof.RefRun.lean ====
/- The reference run: its host operations in five runs (four stages, then the stacking of their results), each
   read over whatever the buffers hold when it starts. -/
module

public import proofs.«01_k».proof.Proof.RefStage
public import Idealize.ShloMosaic.Lib.StableHlo.RunRead

@[expose] public section

set_option maxRecDepth 16384
set_option maxHeartbeats 4000000

noncomputable section

namespace Cert.ReferenceIdeal

open Idealize.ShloMosaic Idealize.SL.Sem Cert.ReferenceIdeal.Gen

/-- The reference's host operations in program order, with the fact that its @main runs them. -/
def line : { ops : List (HloOp τ sig (Elt Ideal)) // ∀ d, StableHlo.IsSeq (main (F := Ideal) d) ops } :=
  by
    apply Subtype.mk
    hlo_seq

/-- What a buffer holds, as the contents of its device buffer. -/
abbrev rd (V : Valuation τ sig (Elt Ideal)) (b : Ref sig .tc) := V (Proc.devRef .tc b)

/-- The operations of the four stages, and those that stack the stages' results. -/
def ops1 : List (HloOp τ sig (Elt Ideal)) := line.1.take 51
@[inherit_doc ops1] def ops2 : List (HloOp τ sig (Elt Ideal)) := (line.1.drop 51).take 50
@[inherit_doc ops1] def ops3 : List (HloOp τ sig (Elt Ideal)) := (line.1.drop 101).take 50
@[inherit_doc ops1] def ops4 : List (HloOp τ sig (Elt Ideal)) := (line.1.drop 151).take 50
@[inherit_doc ops1] def ops5 : List (HloOp τ sig (Elt Ideal)) := line.1.drop 201

/-- The first stage: its residual, indices, output and loss, and the code books as they were. -/
theorem run1 (V : Valuation τ sig (Elt Ideal)) :
    StableHlo.after ops1 V (Proc.devRef .tc main_v31) = next (rd V main_arg0) (cb0 (rd V main_arg1)) ∧
    StableHlo.after ops1 V (Proc.devRef .tc main_v16) = code (rd V main_arg0) (cb0 (rd V main_arg1)) ∧
    StableHlo.after ops1 V (Proc.devRef .tc main_v20) = out (rd V main_arg0) (cb0 (rd V main_arg1)) ∧
    StableHlo.after ops1 V (Proc.devRef .tc main_v32)
      = addf (constant S_ .f32 0x00000000#32) (loss (rd V main_arg0) (zq (rd V main_arg0) (cb0 (rd V main_arg1)))) ∧
    StableHlo.after ops1 V (Proc.devRef .tc main_arg1) = rd V main_arg1 := by
  simp only [ops1, line, List.take_succ_cons, List.take_zero, rd]
  refine ⟨?_, ?_, ?_, ?_, ?_⟩ <;>
  · after_reads_simp
    try simp -implicitDefEqProofs only [StableHlo.TRef.toBuf, StableHlo.TRef.ofBuf, cast_cast, cast_eq]
    try unfold next
    try unfold loss mean
    try unfold out ste
    try unfold zq gather
    try unfold code argmin dist cb0
    try rfl

/-- The second stage, from the residual in `main_v31` and the loss so far in `main_v32`. -/
theorem run2 (V : Valuation τ sig (Elt Ideal)) :
    StableHlo.after ops2 V (Proc.devRef .tc main_v64) = next (rd V main_v31) (cb1 (rd V main_arg1)) ∧
    StableHlo.after ops2 V (Proc.devRef .tc main_v49) = code (rd V main_v31) (cb1 (rd V main_arg1)) ∧
    StableHlo.after ops2 V (Proc.devRef .tc main_v53) = out (rd V main_v31) (cb1 (rd V main_arg1)) ∧
    StableHlo.after ops2 V (Proc.devRef .tc main_v65)
      = addf (rd V main_v32 : FVec Ideal S_ .f32) (loss (rd V main_v31) (zq (rd V main_v31) (cb1 (rd V main_arg1)))) ∧
    StableHlo.after ops2 V (Proc.devRef .tc main_arg1) = rd V main_arg1 ∧
    StableHlo.after ops2 V (Proc.devRef .tc main_v16) = rd V main_v16 ∧
    StableHlo.after ops2 V (Proc.devRef .tc main_v20) = rd V main_v20 := by
  simp only [ops2, line, List.drop_succ_cons, List.drop_zero, List.take_succ_cons, List.take_zero, rd]
  refine ⟨?_, ?_, ?_, ?_, ?_, ?_, ?_⟩ <;>
  · after_reads_simp
    try simp -implicitDefEqProofs only [StableHlo.TRef.toBuf, StableHlo.TRef.ofBuf, cast_cast, cast_eq]
    try unfold next
    try unfold loss mean
    try unfold out ste
    try unfold zq gather
    try unfold code argmin dist cb1
    try rfl

/-- The third stage, from the residual in `main_v64` and the loss so far in `main_v65`. -/
theorem run3 (V : Valuation τ sig (Elt Ideal)) :
    StableHlo.after ops3 V (Proc.devRef .tc main_v97) = next (rd V main_v64) (cb2 (rd V main_arg1)) ∧
    StableHlo.after ops3 V (Proc.devRef .tc main_v82) = code (rd V main_v64) (cb2 (rd V main_arg1)) ∧
    StableHlo.after ops3 V (Proc.devRef .tc main_v86) = out (rd V main_v64) (cb2 (rd V main_arg1)) ∧
    StableHlo.after ops3 V (Proc.devRef .tc main_v98)
      = addf (rd V main_v65 : FVec Ideal S_ .f32) (loss (rd V main_v64) (zq (rd V main_v64) (cb2 (rd V main_arg1)))) ∧
    StableHlo.after ops3 V (Proc.devRef .tc main_arg1) = rd V main_arg1 ∧
    StableHlo.after ops3 V (Proc.devRef .tc main_v16) = rd V main_v16 ∧
    StableHlo.after ops3 V (Proc.devRef .tc main_v20) = rd V main_v20 ∧
    StableHlo.after ops3 V (Proc.devRef .tc main_v49) = rd V main_v49 ∧
    StableHlo.after ops3 V (Proc.devRef .tc main_v53) = rd V main_v53 := by
  simp only [ops3, line, List.drop_succ_cons, List.drop_zero, List.take_succ_cons, List.take_zero, rd]
  refine ⟨?_, ?_, ?_, ?_, ?_, ?_, ?_, ?_, ?_⟩ <;>
  · after_reads_simp
    try simp -implicitDefEqProofs only [StableHlo.TRef.toBuf, StableHlo.TRef.ofBuf, cast_cast, cast_eq]
    try unfold next
    try unfold loss mean
    try unfold out ste
    try unfold zq gather
    try unfold code argmin dist cb2
    try rfl

/-- The fourth stage, from the residual in `main_v97` and the loss so far in `main_v98`. -/
theorem run4 (V : Valuation τ sig (Elt Ideal)) :
    StableHlo.after ops4 V (Proc.devRef .tc main_v115) = code (rd V main_v97) (cb3 (rd V main_arg1)) ∧
    StableHlo.after ops4 V (Proc.devRef .tc main_v119) = out (rd V main_v97) (cb3 (rd V main_arg1)) ∧
    StableHlo.after ops4 V (Proc.devRef .tc main_v131)
      = addf (rd V main_v98 : FVec Ideal S_ .f32) (loss (rd V main_v97) (zq (rd V main_v97) (cb3 (rd V main_arg1)))) ∧
    StableHlo.after ops4 V (Proc.devRef .tc main_v16) = rd V main_v16 ∧
    StableHlo.after ops4 V (Proc.devRef .tc main_v20) = rd V main_v20 ∧
    StableHlo.after ops4 V (Proc.devRef .tc main_v49) = rd V main_v49 ∧
    StableHlo.after ops4 V (Proc.devRef .tc main_v53) = rd V main_v53 ∧
    StableHlo.after ops4 V (Proc.devRef .tc main_v82) = rd V main_v82 ∧
    StableHlo.after ops4 V (Proc.devRef .tc main_v86) = rd V main_v86 := by
  simp only [ops4, line, List.drop_succ_cons, List.drop_zero, List.take_succ_cons, List.take_zero, rd]
  refine ⟨?_, ?_, ?_, ?_, ?_, ?_, ?_, ?_, ?_⟩ <;>
  · after_reads_simp
    try simp -implicitDefEqProofs only [StableHlo.TRef.toBuf, StableHlo.TRef.ofBuf, cast_cast, cast_eq]
    try unfold loss mean
    try unfold out ste
    try unfold zq gather
    try unfold code argmin dist cb3
    try rfl

/-- The stacking of the stages' outputs and indices; the loss stands. -/
theorem run5 (V : Valuation τ sig (Elt Ideal)) :
    StableHlo.after ops5 V (Proc.devRef .tc main_v137)
      = stack (rd V main_v20) (rd V main_v53) (rd V main_v86) (rd V main_v119) ∧
    StableHlo.after ops5 V (Proc.devRef .tc main_v142)
      = columns (rd V main_v16) (rd V main_v49) (rd V main_v82) (rd V main_v115) ∧
    StableHlo.after ops5 V (Proc.devRef .tc main_v131) = rd V main_v131 := by
  simp only [ops5, line, List.drop_succ_cons, List.drop_zero, rd]
  refine ⟨?_, ?_, ?_⟩ <;>
  · after_reads_simp
    try unfold stack
    try unfold columns
    try rfl

end Cert.ReferenceIdeal

end
-- ==== Proof.RefValue.lean ====
/- What the reference leaves in its three results, row by row. -/
module

public import proofs.«01_k».proof.Proof.RefRow
public import proofs.«01_k».proof.Proof.RefRun
public import proofs.«01_k».proof.Proof.Chain

@[expose] public section

set_option maxRecDepth 16384

noncomputable section

namespace Cert.ReferenceIdeal

open Idealize.ShloMosaic Idealize.SL.Sem Cert.ReferenceIdeal.Gen

section Stages

variable (X : FVec Ideal S32768x64 .f32) (C : FVec Ideal S4x1024x64 .f32)

/-- Row `R` of all inputs. -/
def rowAt (R : Fin 32768) (j : Fin 64) : EReal := X (ix2 R j)

/-- The four books. -/
def booksOf (s : Fin 4) (k : Fin 1024) (j : Fin 64) : EReal := C (ix3 s k j)

/-- The residuals after one, two and three stages. -/
def X1 : FVec Ideal S32768x64 .f32 := next X (cb0 C)

@[inherit_doc X1]
def X2 : FVec Ideal S32768x64 .f32 := next (X1 X C) (cb1 C)

@[inherit_doc X1]
def X3 : FVec Ideal S32768x64 .f32 := next (X2 X C) (cb2 C)

/-- The row the first stage works on. -/
theorem row_X0 (R : Fin 32768) : row X R = rowAt X R := rfl

/-- The first stage's book. -/
theorem book_0 : book (cb0 C) = booksOf C 0 := book_cb0 C
/-- The second stage's book. -/
theorem book_1 : book (cb1 C) = booksOf C 1 := book_cb1 C
/-- The third stage's book. -/
theorem book_2 : book (cb2 C) = booksOf C 2 := book_cb2 C
/-- The fourth stage's book. -/
theorem book_3 : book (cb3 C) = booksOf C 3 := book_cb3 C

/-- A row of the residual after one stage. -/
theorem row_X1 (R : Fin 32768) : row (X1 X C) R = Row.res1 (rowAt X R) (booksOf C) := by
  rw [X1, row_next, book_0, row_X0]; rfl

/-- A row of the residual after two stages. -/
theorem row_X2 (R : Fin 32768) : row (X2 X C) R = Row.res2 (rowAt X R) (booksOf C) := by
  rw [X2, row_next, book_1, row_X1]; rfl

/-- A row of the residual after three stages. -/
theorem row_X3 (R : Fin 32768) : row (X3 X C) R = Row.res3 (rowAt X R) (booksOf C) := by
  rw [X3, row_next, book_2, row_X2]; rfl

/-- The first result: the four stages' outputs added. -/
def recR : FVec Ideal S32768x64 .f32 :=
  stack (out X (cb0 C)) (out (X1 X C) (cb1 C)) (out (X2 X C) (cb2 C)) (out (X3 X C) (cb3 C))

/-- The second result: the four stages' indices side by side. -/
def idxR : Vec Ideal S32768x4 .i32 :=
  columns (code X (cb0 C)) (code (X1 X C) (cb1 C)) (code (X2 X C) (cb2 C)) (code (X3 X C) (cb3 C))

/-- The third result: the four stages' losses added. -/
def lossR : FVec Ideal S_ .f32 :=
  addf (addf (addf (addf (constant S_ .f32 0x00000000#32) (loss X (zq X (cb0 C)))) (loss (X1 X C) (zq (X1 X C) (cb1 C))))
    (loss (X2 X C) (zq (X2 X C) (cb2 C)))) (loss (X3 X C) (zq (X3 X C) (cb3 C)))

/-- The first result at an entry. -/
theorem recR_apply (R : Fin 32768) (j : Fin 64) : recR X C (ix2 R j) = Row.recon (rowAt X R) (booksOf C) j := by
  rw [recR, stack_apply, out_apply, out_apply, out_apply, out_apply, row_X0, row_X1, row_X2, row_X3, book_0, book_1,
    book_2, book_3]
  rfl

/-- The second result at an entry. -/
theorem idxR_apply (R : Fin 32768) (s : Fin 4) : idxR X C (ix2 R s) = Row.index (rowAt X R) (booksOf C) s := by
  rw [idxR, columns_apply, code_apply, code_apply, code_apply, code_apply, row_X0, row_X1, row_X2, row_X3, book_0, book_1,
    book_2, book_3]
  rfl

/-- One stage's loss. -/
theorem loss_apply (Y : FVec Ideal S32768x64 .f32) (W : FVec Ideal S1024x64 .f32) (j : S_.Idx) :
    loss Y (zq Y W) j = Row.weight * ∑ R, Row.err (row Y R) (book W) := by
  have h : loss Y (zq Y W) j = mean Y (zq Y W) j + Ideal.ofBits .f32 0x3E800000#32 * mean Y (zq Y W) j := by
    pointwise [loss]
  rw [h, mean_zq, Row.mean_quarter]

/-- The third result. -/
theorem lossR_apply (j : S_.Idx) : lossR X C j
    = Row.weight * (∑ R, Row.errs (rowAt X R) (booksOf C) 0) + Row.weight * (∑ R, Row.errs (rowAt X R) (booksOf C) 1)
      + Row.weight * (∑ R, Row.errs (rowAt X R) (booksOf C) 2) + Row.weight * (∑ R, Row.errs (rowAt X R) (booksOf C) 3) := by
  have h : lossR X C j = loss X (zq X (cb0 C)) j + loss (X1 X C) (zq (X1 X C) (cb1 C)) j
      + loss (X2 X C) (zq (X2 X C) (cb2 C)) j + loss (X3 X C) (zq (X3 X C) (cb3 C)) j := by
    pointwise [lossR]
  rw [h, loss_apply, loss_apply, loss_apply, loss_apply]
  simp only [row_X1, row_X2, row_X3, book_0, book_1, book_2, book_3, Row.errs_0, Row.errs_1, Row.errs_2, Row.errs_3]
  simp only [row_X0]

end Stages

/-! ## The run -/

/-- The operations are the five runs one after the other. -/
theorem line_eq : line.1 = ops1 ++ (ops2 ++ (ops3 ++ (ops4 ++ ops5))) := by
  have h (l : List (HloOp τ sig (Elt Ideal))) :
      l = l.take 51 ++ ((l.drop 51).take 50 ++ ((l.drop 101).take 50 ++ ((l.drop 151).take 50 ++ l.drop 201))) := by
    rw [show l.drop 201 = (l.drop 151).drop 50 by rw [List.drop_drop], List.take_append_drop,
      show l.drop 151 = (l.drop 101).drop 50 by rw [List.drop_drop], List.take_append_drop,
      show l.drop 101 = (l.drop 51).drop 50 by rw [List.drop_drop], List.take_append_drop, List.take_append_drop]
  exact h line.1

/-- What the whole run leaves in the three results. -/
theorem after_line (V : Valuation τ sig (Elt Ideal)) :
    StableHlo.after line.1 V (Proc.devRef .tc main_v137) = recR (rd V main_arg0) (rd V main_arg1) ∧
    StableHlo.after line.1 V (Proc.devRef .tc main_v142) = idxR (rd V main_arg0) (rd V main_arg1) ∧
    StableHlo.after line.1 V (Proc.devRef .tc main_v131) = lossR (rd V main_arg0) (rd V main_arg1) := by
  rw [line_eq, StableHlo.after_append, StableHlo.after_append, StableHlo.after_append, StableHlo.after_append]
  obtain ⟨a1, a2, a3, a4, a5⟩ := run1 V
  set V1 := StableHlo.after ops1 V
  obtain ⟨b1, b2, b3, b4, b5, b6, b7⟩ := run2 V1
  set V2 := StableHlo.after ops2 V1
  obtain ⟨c1, c2, c3, c4, c5, c6, c7, c8, c9⟩ := run3 V2
  set V3 := StableHlo.after ops3 V2
  obtain ⟨d1, d2, d3, d4, d5, d6, d7, d8, d9⟩ := run4 V3
  set V4 := StableHlo.after ops4 V3
  obtain ⟨e1, e2, e3⟩ := run5 V4
  simp only [rd] at *
  rw [e1, e2, e3, d1, d2, d3, d4, d5, d6, d7, d8, d9, c1, c2, c3, c4, c5, c6, c7, c8, c9, b1, b2, b3, b4, b5, b6, b7,
    a1, a2, a3, a4, a5]
  exact ⟨rfl, rfl, rfl⟩

/-- The run: every final state has the three results at their closed forms. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v137) = recR (m ((c.tc : Thread nD τ).loc main_arg0)) (m ((c.tc : Thread nD τ).loc main_arg1))
      ∧ r.2.mem ((c.tc : Thread nD τ).loc main_v142) = idxR (m ((c.tc : Thread nD τ).loc main_arg0)) (m ((c.tc : Thread nD τ).loc main_arg1))
      ∧ r.2.mem ((c.tc : Thread nD τ).loc main_v131) = lossR (m ((c.tc : Thread nD τ).loc main_arg0)) (m ((c.tc : Thread nD τ).loc main_arg1))) := by
  refine θ_run_mono (StableHlo.run_hlo _ _ line.2 (by decide) (by decide) ?_ ?_ m g) fun r h c => ?_
  · unfold line; decide
  · unfold line
    intro _ h
    repeat (cases h with | head => rfl | tail _ h => ?_)
    exact nomatch h
  · obtain ⟨h1, h2, h3⟩ := after_line (StableHlo.launchContents m c)
    exact ⟨(h c main_v137).trans h1, (h c main_v142).trans h2, (h c main_v131).trans h3⟩

end Cert.ReferenceIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KerValue
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Every run of the kernel ends, with the arguments unchanged and every semaphore counter at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference over the extended reals. -/
theorem frame_reference : Cert.quiescent_ReferenceIdeal := by
  intro m g _
  hlo_run
  · exact fun _ => ⟨trivial, trivial⟩
  exact Idealize.ShloMosaic.sem_eq_zero_of_no_sems (by decide : Cert.ReferenceIdeal.sig.nSem + Cert.ReferenceIdeal.sig.nDmaSem = 0) _

/-- The kernel over the extended reals is the kernel's own text: no operation was rewritten. -/
theorem preserves : Cert.preserves_Kernel_KernelIdeal := trivial

/-- The two programs' first results, as functions of the arguments, are equal. -/
theorem rec_eq (X : Vec Ideal Cert.KernelIdeal.S32768x64 .f32) (C : Vec Ideal Cert.KernelIdeal.S4x1024x64 .f32) :
    Cert.ReferenceIdeal.recR X C = Cert.KernelIdeal.recF X C :=
  funext fun i => (congrArg (Cert.ReferenceIdeal.recR X C) (eq_ix2 i)).trans (Cert.ReferenceIdeal.recR_apply X C (i 0) (i 1))

/-- The two programs' second results, as functions of the arguments, are equal. -/
theorem idx_eq (X : Vec Ideal Cert.KernelIdeal.S32768x64 .f32) (C : Vec Ideal Cert.KernelIdeal.S4x1024x64 .f32) :
    Cert.ReferenceIdeal.idxR X C = Cert.KernelIdeal.idxF X C :=
  funext fun i => (congrArg (Cert.ReferenceIdeal.idxR X C) (eq_ix2 i)).trans (Cert.ReferenceIdeal.idxR_apply X C (i 0) (i 1))

/-- The two programs' third results, as functions of the arguments, are equal. -/
theorem loss_eq (X : Vec Ideal Cert.KernelIdeal.S32768x64 .f32) (C : Vec Ideal Cert.KernelIdeal.S4x1024x64 .f32) :
    Cert.ReferenceIdeal.lossR X C = fun _ => Cert.KernelIdeal.lossF X C :=
  funext fun j => Cert.ReferenceIdeal.lossR_apply X C j

/-- The kernel and the reference, from equal arguments, end with equal results and leave the arguments as they were. -/
theorem algebraic : Cert.algebraic_KernelIdeal_ReferenceIdeal := by
  pair_intro
  · run_from Cert.KernelIdeal.run m g
  · refine θ_run_mono (θ_run_and (Cert.ReferenceIdeal.run m' g') (frame_reference m' g' trivial)) fun r h c => ?_
    obtain ⟨h0, h1, h2⟩ := h.1 c
    rw [(hagree c).1, (hagree c).2] at h0 h1 h2
    exact ⟨h0.trans (rec_eq _ _), h1.trans (idx_eq _ _), h2.trans (loss_eq _ _), h.2.1 c⟩

/-- All five claims. -/
theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
